-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router_KernelIdeal [hPre_finite_router_KernelIdeal : Cert.Pre_finite_router_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_router_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router_ReferenceIdeal [hPre_finite_router_ReferenceIdeal : Cert.Pre_finite_router_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_router_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_router_KernelIdeal [hKernelIdeal : Cert.KernelIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_router_ReferenceIdeal [hReferenceIdeal : Cert.ReferenceIdeal.Facts] [hPre_finite_router_ReferenceIdeal : Cert.Pre_finite_router_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_router_KernelIdeal [hKernelIdeal : Cert.KernelIdeal.Facts] [hReferenceIdeal : Cert.ReferenceIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_router_KernelIdeal : Cert.Pre_finite_router_KernelIdeal.Facts) (hPre_finite_router_ReferenceIdeal : Cert.Pre_finite_router_ReferenceIdeal.Facts),
    quiescent_Kernel (hKernel := hKernel)
    ∧ quiescent_KernelIdeal (hKernelIdeal := hKernelIdeal)
    ∧ quiescent_KernelIdeal_pre_finite_router_KernelIdeal (hKernelIdeal := hKernelIdeal) (hPre_finite_router_KernelIdeal := hPre_finite_router_KernelIdeal)
    ∧ quiescent_ReferenceIdeal (hReferenceIdeal := hReferenceIdeal)
    ∧ quiescent_ReferenceIdeal_pre_finite_router_ReferenceIdeal (hReferenceIdeal := hReferenceIdeal) (hPre_finite_router_ReferenceIdeal := hPre_finite_router_ReferenceIdeal)
    ∧ preserves_Kernel_KernelIdeal
    ∧ algebraic_KernelIdeal_ReferenceIdeal_pre_finite_router_KernelIdeal (hKernelIdeal := hKernelIdeal) (hReferenceIdeal := hReferenceIdeal) (hPre_finite_router_KernelIdeal := hPre_finite_router_KernelIdeal)
-- ==== Pre_finite_router_KernelIdeal.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  bcast_S_S256x8 : S_.BroadcastsInDim S256x8 (![] : Fin 0 → Fin S256x8.rank)

variable [Facts]

def fn {F : FTy → Type} [FloatOps F] (main_arg0 : FVec F S512x256 .f32) (main_arg1 : FVec F S256x8 .f32) (main_arg2 : IVec S512x1 32) (main_arg3 : FVec F S2x256x512 .f32) (main_arg4 : FVec F S256x512 .f32) : IVec S512x256 1 × IVec S256x8 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x8 .f32 := Host.absf main_arg1
  let main_cst_0 : FVec F S_ .f32 := constant S_ .f32 0x7F800000#32
  let main_v4 : FVec F S256x8 .f32 := broadcastInDim S256x8 ![] bcast_S_S256x8 main_cst_0
  let main_v5 : IVec S256x8 1 := cmpf .olt main_v3 main_v4
  (main_v2, main_v5)
-- ==== Pre_finite_router_ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  bcast_S_S256x8 : S_.BroadcastsInDim S256x8 (![] : Fin 0 → Fin S256x8.rank)

variable [Facts]

def fn {F : FTy → Type} [FloatOps F] (main_arg0 : FVec F S512x256 .f32) (main_arg1 : FVec F S256x8 .f32) (main_arg2 : IVec S512x1 32) (main_arg3 : FVec F S8x256x512 .f32) (main_arg4 : FVec F S256x512 .f32) : IVec S512x256 1 × IVec S256x8 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x8 .f32 := Host.absf main_arg1
  let main_cst_0 : FVec F S_ .f32 := constant S_ .f32 0x7F800000#32
  let main_v4 : FVec F S256x8 .f32 := broadcastInDim S256x8 ![] bcast_S_S256x8 main_cst_0
  let main_v5 : IVec S256x8 1 := cmpf .olt main_v3 main_v4
  (main_v2, main_v5)
-- ==== Kernel.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S256x512 : Shape := ⟨2, ![256, 512]⟩
abbrev S512x512 : Shape := ⟨2, ![512, 512]⟩
abbrev S3x128x512 : Shape := ⟨3, ![3, 128, 512]⟩
abbrev S128x512 : Shape := ⟨2, ![128, 512]⟩
abbrev S2x3 : Shape := ⟨2, ![2, 3]⟩
abbrev S_ : Shape := ⟨0, ![]⟩
abbrev S1x256x512 : Shape := ⟨3, ![1, 256, 512]⟩
abbrev S512x8 : Shape := ⟨2, ![512, 8]⟩
abbrev S512 : Shape := ⟨1, ![512]⟩
abbrev S128x256 : Shape := ⟨2, ![128, 256]⟩
abbrev S128x1 : Shape := ⟨2, ![128, 1]⟩
abbrev S1x128x512 : Shape := ⟨3, ![1, 128, 512]⟩
abbrev S1x1 : Shape := ⟨2, ![1, 1]⟩

abbrev nBuf : Space → Nat
  | .hbm => 6
  | .vmem => 13
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x1, .i32⟩
  | .hbm, ⟨3, _⟩ => ⟨S2x256x512, .f32⟩
  | .hbm, ⟨4, _⟩ => ⟨S256x512, .f32⟩
  | .hbm, ⟨5, _⟩ => ⟨S512x512, .f32⟩
  | .local _ .vmem, ⟨0, _⟩ => ⟨S512x256, .f32⟩
  | .local _ .vmem, ⟨1, _⟩ => ⟨S256x8, .f32⟩
  | .local _ .vmem, ⟨2, _⟩ => ⟨S512x1, .i32⟩
  | .local _ .vmem, ⟨3, _⟩ => ⟨S2x256x512, .f32⟩
  | .local _ .vmem, ⟨4, _⟩ => ⟨S256x512, .f32⟩
  | .local _ .vmem, ⟨5, _⟩ => ⟨S512x512, .f32⟩
  | .local _ .vmem, ⟨6, _⟩ => ⟨S512x1, .f32⟩
  | .local _ .vmem, ⟨7, _⟩ => ⟨S2x256x512, .bf16⟩
  | .local _ .vmem, ⟨8, _⟩ => ⟨S256x512, .bf16⟩
  | .local _ .vmem, ⟨9, _⟩ => ⟨S3x128x512, .bf16⟩
  | .local _ .vmem, ⟨10, _⟩ => ⟨S3x128x512, .bf16⟩
  | .local _ .vmem, ⟨11, _⟩ => ⟨S3x128x512, .bf16⟩
  | .local _ .vmem, ⟨12, _⟩ => ⟨S128x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_39 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v60 : BitVec 32 := Scalar.addi v2 c2_i32_39
  let c4_i32_40 : BitVec 32 := 4#32
  let v61 : BitVec 32 := Scalar.remsi v60 c4_i32_40
  let c128_i32 : BitVec 32 := 128#32
  let v62 : BitVec 32 := Scalar.muli v61 c128_i32
  let v63 : Index := Scalar.indexCast v62
  let c0_41 : Index := 0#32
  ![v63.toNat, 0]
def k0_off2 (d0 : Dev nD) (c2_i32_39 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v60 : BitVec 32 := Scalar.addi v2 c2_i32_39
  let c4_i32_40 : BitVec 32 := 4#32
  let v61 : BitVec 32 := Scalar.remsi v60 c4_i32_40
  let c128_i32 : BitVec 32 := 128#32
  let v62 : BitVec 32 := Scalar.muli v61 c128_i32
  let v66 : Index := Scalar.indexCast v62
  let c0_42 : Index := 0#32
  ![v66.toNat, 0]
def k0_dev4 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_39 : BitVec 32 := 2#32
  let v60 : BitVec 32 := Scalar.addi v2 c2_i32_39
  let c4_i32_40 : BitVec 32 := 4#32
  let v61 : BitVec 32 := Scalar.remsi v60 c4_i32_40
  let c1_i32_68 : BitVec 32 := 1#32
  let v102 : BitVec 32 := Scalar.muli v61 c1_i32_68
  let v103 : BitVec 32 := Scalar.addi c0_i32_69 v102
  v103.toNat
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_74 : BitVec 32 := 1#32
  let v112 : BitVec 32 := Scalar.addi v2 c1_i32_74
  let c4_i32_75 : BitVec 32 := 4#32
  let v113 : BitVec 32 := Scalar.remsi v112 c4_i32_75
  let c1_i32_103 : BitVec 32 := 1#32
  let v154 : BitVec 32 := Scalar.muli v113 c1_i32_103
  let v155 : BitVec 32 := Scalar.addi c0_i32_104 v154
  v155.toNat
def k0_dev6 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_109 : BitVec 32 := 3#32
  let v164 : BitVec 32 := Scalar.addi v2 c3_i32_109
  let c4_i32_110 : BitVec 32 := 4#32
  let v165 : BitVec 32 := Scalar.remsi v164 c4_i32_110
  let c1_i32_139 : BitVec 32 := 1#32
  let v206 : BitVec 32 := Scalar.muli v165 c1_i32_139
  let v207 : BitVec 32 := Scalar.addi c0_i32_140 v206
  v207.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_145 : BitVec 32 := 128#32
  let v216 : BitVec 32 := Scalar.muli v2 c128_i32_145
  let v217 : Index := Scalar.indexCast v216
  let c0_146 : Index := 0#32
  ![v217.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_145 : BitVec 32 := 128#32
  let v216 : BitVec 32 := Scalar.muli v2 c128_i32_145
  let v220 : Index := Scalar.indexCast v216
  let c0_147 : Index := 0#32
  ![v220.toNat, 0]
def k0_dev7 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_216 : BitVec 32 := 2#32
  let v296 : BitVec 32 := Scalar.addi v2 c2_i32_216
  let c4_i32_217 : BitVec 32 := 4#32
  let v297 : BitVec 32 := Scalar.remsi v296 c4_i32_217
  let c1_i32_223 : BitVec 32 := 1#32
  let v298 : BitVec 32 := Scalar.muli v297 c1_i32_223
  let v299 : BitVec 32 := Scalar.addi c0_i32_224 v298
  v299.toNat
def k0_dev8 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_227 : BitVec 32 := 1#32
  let v306 : BitVec 32 := Scalar.addi v2 c1_i32_227
  let c4_i32_228 : BitVec 32 := 4#32
  let v307 : BitVec 32 := Scalar.remsi v306 c4_i32_228
  let c1_i32_234 : BitVec 32 := 1#32
  let v308 : BitVec 32 := Scalar.muli v307 c1_i32_234
  let v309 : BitVec 32 := Scalar.addi c0_i32_235 v308
  v309.toNat
def k0_dev9 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_238 : BitVec 32 := 3#32
  let v316 : BitVec 32 := Scalar.addi v2 c3_i32_238
  let c4_i32_239 : BitVec 32 := 4#32
  let v317 : BitVec 32 := Scalar.remsi v316 c4_i32_239
  let c1_i32_245 : BitVec 32 := 1#32
  let v318 : BitVec 32 := Scalar.muli v317 c1_i32_245
  let v319 : BitVec 32 := Scalar.addi c0_i32_246 v318
  v319.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_249 : BitVec 32 := 128#32
  let v326 : BitVec 32 := Scalar.muli v2 c128_i32_249
  let v327 : Index := Scalar.indexCast v326
  let c0_250 : Index := 0#32
  ![v327.toNat, 0]
def k0_off6 (d0 : Dev nD) (c0_i32_280 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v352 : BitVec 32 := Scalar.addi v2 c0_i32_280
  let c1_i32_281 : BitVec 32 := 1#32
  let v353 : BitVec 32 := Scalar.addi v352 c1_i32_281
  let c4_i32_282 : BitVec 32 := 4#32
  let v354 : BitVec 32 := Scalar.remsi v353 c4_i32_282
  let c128_i32_283 : BitVec 32 := 128#32
  let v355 : BitVec 32 := Scalar.muli v354 c128_i32_283
  let v356 : Index := Scalar.indexCast v355
  let c0_284 : Index := 0#32
  ![v356.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S256x512 : Shape := ⟨2, ![256, 512]⟩
abbrev S512x8 : Shape := ⟨2, ![512, 8]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S512x8x512 : Shape := ⟨3, ![512, 8, 512]⟩
abbrev S512x1x512 : Shape := ⟨3, ![512, 1, 512]⟩

abbrev nBuf : Space → Nat
  | .hbm => 53
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x1, .i32⟩
  | .hbm, ⟨3, _⟩ => ⟨S8x256x512, .f32⟩
  | .hbm, ⟨4, _⟩ => ⟨S256x512, .f32⟩
  | .hbm, ⟨5, _⟩ => ⟨S512x8, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x8, .f32⟩
  | .hbm, ⟨10, _⟩ => ⟨S512x8, .f32⟩
  | .hbm, ⟨11, _⟩ => ⟨S512x8, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x8, .f32⟩
  | .hbm, ⟨16, _⟩ => ⟨S512x8, .f32⟩
  | .hbm, ⟨17, _⟩ => ⟨S512x512, .f32⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x1, .i1⟩
  | .hbm, ⟨25, _⟩ => ⟨S_, .i32⟩
  | .hbm, ⟨26, _⟩ => ⟨S512x1, .i32⟩
  | .hbm, ⟨27, _⟩ => ⟨S512x1, .i1⟩
  | .hbm, ⟨28, _⟩ => ⟨S_, .i32⟩
  | .hbm, ⟨29, _⟩ => ⟨S512x1, .i32⟩
  | .hbm, ⟨30, _⟩ => ⟨S512x1, .i32⟩
  | .hbm, ⟨31, _⟩ => ⟨S512x1, .i32⟩
  | .hbm, ⟨32, _⟩ => ⟨S512x1x1, .i32⟩
  | .hbm, ⟨33, _⟩ => ⟨S512x1, .f32⟩
  | .hbm, ⟨34, _⟩ => ⟨S512x8x512, .f32⟩
  | .hbm, ⟨35, _⟩ => ⟨S512x1x1, .i32⟩
  | .hbm, ⟨36, _⟩ => ⟨S_, .i32⟩
  | .hbm, ⟨37, _⟩ => ⟨S512x1x1, .i32⟩
  | .hbm, ⟨38, _⟩ => ⟨S512x1x1, .i1⟩
  | .hbm, ⟨39, _⟩ => ⟨S_, .i32⟩
  | .hbm, ⟨40, _⟩ => ⟨S512x1x1, .i32⟩
  | .hbm, ⟨41, _⟩ => ⟨S512x1x1, .i32⟩
  | .hbm, ⟨42, _⟩ => ⟨S512x1x1, .i32⟩
  | .hbm, ⟨43, _⟩ => ⟨S512x1x512, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S_, .f32⟩
  | .hbm, ⟨49, _⟩ => ⟨S512x512, .i1⟩
  | .hbm, ⟨50, _⟩ => ⟨S512x512, .f32⟩
  | .hbm, ⟨51, _⟩ => ⟨S512x512, .f32⟩
  | .hbm, ⟨52, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v23 : Ref sig .tc := ⟨.hbm, 51, rfl⟩
abbrev main_v24 : Ref sig .tc := ⟨.hbm, 52, rfl⟩

abbrev nD : Nat := 1
abbrev τ : Topo := Topo.v7x

variable {F : FTy → Type} [FloatOps F]
-- ==== Proof.Values.lean ====
/-
What the kernel computes on each device, as plain functions of the launch contents `m`.

Device `c` holds two of the eight expert matrices. For every block of 128 rows it forms the part of the routed
sum its own two experts contribute (`sent` for the three blocks it sends away, `own` for the block it keeps), adds the three
blocks it receives to its own (`red`), and sends the sum to its peers; the result array is the shared product with
each of the four blocks of the routed sum added.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.MoE

open Cert.KernelIdeal Cert.KernelIdeal.Gen
open Idealize.ShloMosaic Idealize.ShloMosaic.TcCoe Idealize.SL.Sem

variable {F : FTy → Type} [FloatOps F]

/-! ## The four devices -/

/-- The device whose landing slot `s` device `c` writes: three, two and one places further for slots 0, 1 and 2. -/
def dst (s : Fin 3) (c : Dev nD) : Dev nD := ⟨(c.val + (3 - s.val)) % 4, Nat.mod_lt _ (by decide)⟩
/-- The device that writes landing slot `s` of device `c`: `s + 1` places further. -/
def src (s : Fin 3) (c : Dev nD) : Dev nD := ⟨(c.val + (s.val + 1)) % 4, Nat.mod_lt _ (by decide)⟩

/-- The device that writes the slot which `c` writes on its peer is `c`; -/
theorem src_dst (s : Fin 3) (c : Dev nD) : src s (dst s c) = c := by revert s c; decide
/-- and the other way round. -/
theorem dst_src (s : Fin 3) (c : Dev nD) : dst s (src s c) = c := by revert s c; decide

/-- The kernel's position word: the device number. -/
abbrev word (c : Dev nD) : BitVec 32 := Scalar.remsi (Scalar.divsi (Dev.word c) 1#32) 4#32

/-! ## The buffers -/

/-- The staged rows `x`. -/
abbrev xM : Memref sig .tc .vmem S512x256 .f32 := Memref.whole cc0_stg0_0
/-- The staged router matrix. -/
abbrev rwM : Memref sig .tc .vmem S256x8 .f32 := Memref.whole cc0_stg1_0
/-- The staged expert numbers. -/
abbrev ixM : Memref sig .tc .vmem S512x1 .i32 := Memref.whole cc0_stg2_0
/-- The staged two expert matrices. -/
abbrev ewM : Memref sig .tc .vmem S2x256x512 .f32 := Memref.whole cc0_stg3_0
/-- The staged shared matrix. -/
abbrev swM : Memref sig .tc .vmem S256x512 .f32 := Memref.whole cc0_stg4_0
/-- The staged result. -/
abbrev outM : Memref sig .tc .vmem S512x512 .f32 := Memref.whole cc0_stg5_0
/-- The probabilities' scratch. -/
abbrev pM : Memref sig .tc .vmem S512x1 .f32 := Memref.whole cc0_scratch0
/-- The narrowed expert matrices' scratch. -/
abbrev ebM : Memref sig .tc .vmem S2x256x512 .bf16 := Memref.whole cc0_scratch1
/-- The narrowed shared matrix's scratch. -/
abbrev sbM : Memref sig .tc .vmem S256x512 .bf16 := Memref.whole cc0_scratch2
/-- The three blocks to send. -/
abbrev sendM : Memref sig .tc .vmem S3x128x512 .bf16 := Memref.whole cc0_scratch3
/-- The three landing slots of the first exchange. -/
abbrev rsM : Memref sig .tc .vmem S3x128x512 .bf16 := Memref.whole cc0_scratch4
/-- The three landing slots of the second exchange. -/
abbrev agM : Memref sig .tc .vmem S3x128x512 .bf16 := Memref.whole cc0_scratch5
/-- The reduced block's scratch. -/
abbrev rM : Memref sig .tc .vmem S128x512 .bf16 := Memref.whole cc0_scratch6

/-! ## The rectangles accessed -/

/-- The two-coordinate zero offset is zero everywhere. -/
theorem hz2 : (![0, 0] : Fin 2 → Nat) = fun _ => 0 := funext fun a => by fin_cases a <;> rfl

/-- Expert `e`'s matrix among a device's two. -/
abbrev eRect0 : Rect S2x256x512 := Rect.unit (s := S2x256x512) ![0, 0, 0] S1x256x512.size inb_S2x256x512_S1x256x512_0_0_0
/-- The second of the two. -/
abbrev eRect1 : Rect S2x256x512 := Rect.unit (s := S2x256x512) ![1, 0, 0] S1x256x512.size inb_S2x256x512_S1x256x512_1_0_0

/-- The rows of `x` in the block `i + 1` places after device `c`'s own. -/
abbrev xRect (c : Dev nD) (i : Fin 3) : Rect S512x256 := Rect.unit (s := S512x256) (k0_off1 c (BitVec.ofNat 32 (1 + i.val))) S128x256.size (k0_off1_inb c i)
/-- The same rows of a column of 512. -/
abbrev colRect (c : Dev nD) (i : Fin 3) : Rect S512x1 := Rect.unit (s := S512x1) (k0_off2 c (BitVec.ofNat 32 (1 + i.val))) S128x1.size (k0_off2_inb c i)
/-- Device `c`'s own rows of `x`, of a column, and of the result. -/
abbrev xOwn (c : Dev nD) : Rect S512x256 := Rect.unit (s := S512x256) (k0_off3 c) S128x256.size (k0_off3_inb c)
/-- The same rows of a column. -/
abbrev colOwn (c : Dev nD) : Rect S512x1 := Rect.unit (s := S512x1) (k0_off4 c) S128x1.size (k0_off4_inb c)
/-- The same rows of the result. -/
abbrev outOwn (c : Dev nD) : Rect S512x512 := Rect.unit (s := S512x512) (k0_off5 c) S128x512.size (k0_off5_inb c)
/-- The rows of the result in the block `i + 1` places after device `c`'s own. -/
abbrev outRect (c : Dev nD) (i : Fin 3) : Rect S512x512 := Rect.unit (s := S512x512) (k0_off6 c (BitVec.ofNat 32 i.val)) S128x512.size (k0_off6_inb c i)

/-- Slot `s` lies within the buffer. -/
theorem inb_slot (s : Fin 3) : ∀ a, (![s.val, 0, 0] : Fin 3 → Nat) a + S1x128x512.size a ≤ S3x128x512.size a := by revert s; decide
/-- Slot `s` of a buffer of three blocks. -/
abbrev slotRect (s : Fin 3) : Rect S3x128x512 := Rect.unit (s := S3x128x512) ![s.val, 0, 0] S1x128x512.size (inb_slot s)
/-- Slot `s` of a buffer of three blocks, as a block of its own. -/
abbrev slot (M : Memref sig .tc .vmem S3x128x512 .bf16) (s : Fin 3) : Memref sig .tc .vmem S128x512 .bf16 :=
  (M.slice (slotRect s) (fun _ => rfl)).squeeze S128x512 squeezes_S1x128x512_S128x512

/-! ## The values -/

variable (m : (ℓ : Loc nD τ sig) → Buf (Elt F) ℓ)

/-- The staged arguments of device `c`. -/
def xS (c : Dev nD) : (cc0_stg0_0 : Ref sig .tc).ty.Contents (Elt F) := (win0_0.blk (0 : Fin 1)).view.read (Elt F) (m ((c : Thread nD τ).loc main_arg0))
/-- The staged router matrix of device `c`. -/
def rwS (c : Dev nD) : (cc0_stg1_0 : Ref sig .tc).ty.Contents (Elt F) := (win0_1.blk (0 : Fin 1)).view.read (Elt F) (m ((c : Thread nD τ).loc main_arg1))
/-- The staged expert numbers of device `c`. -/
def ixS (c : Dev nD) : (cc0_stg2_0 : Ref sig .tc).ty.Contents (Elt F) := (win0_2.blk (0 : Fin 1)).view.read (Elt F) (m ((c : Thread nD τ).loc main_arg2))
/-- The staged expert matrices of device `c`. -/
def ewS (c : Dev nD) : (cc0_stg3_0 : Ref sig .tc).ty.Contents (Elt F) := (win0_3.blk (0 : Fin 1)).view.read (Elt F) (m ((c : Thread nD τ).loc main_arg3))
/-- The staged shared matrix of device `c`. -/
def swS (c : Dev nD) : (cc0_stg4_0 : Ref sig .tc).ty.Contents (Elt F) := (win0_4.blk (0 : Fin 1)).view.read (Elt F) (m ((c : Thread nD τ).loc main_arg4))

/-- `x` as loaded. -/
abbrev xV (c : Dev nD) : FVec F S512x256 .f32 := k0_pay1 (xS m c)
/-- The two expert matrices and the shared matrix, narrowed. -/
def e0 (c : Dev nD) : Vec F S1x256x512 .bf16 := k0_pay2 (ewM.view.readAt (Elt F) eRect0.toLoadRect (ewS m c))
/-- The second expert matrix, narrowed. -/
def e1 (c : Dev nD) : Vec F S1x256x512 .bf16 := k0_pay3 (ewM.view.readAt (Elt F) eRect1.toLoadRect (ewS m c))
/-- The shared matrix, narrowed. -/
def sw (c : Dev nD) : Vec F S256x512 .bf16 := k0_pay4 (swS m c)
/-- The probability of each row's chosen expert. -/
def psel (c : Dev nD) : Vec F S512x1 .f32 := k0_pay5 (xV m c) (rwS m c) (ixS m c)

/-- What device `c` sends of the block `i + 1` places after its own: its two experts' part of the routed sum there. -/
def sent (c : Dev nD) (i : Fin 3) : Vec F S128x512 .bf16 :=
  k0_pay6 (word c) (xM.view.readAt (Elt F) (xRect c i).toLoadRect (xS m c)) (ixM.view.readAt (Elt F) (colRect c i).toLoadRect (ixS m c))
    (pM.view.readAt (Elt F) (colRect c i).toLoadRect (psel m c)) (e0 m c) (e1 m c)

/-- Its two experts' part for its own block. -/
def own (c : Dev nD) : FVec F S128x512 .f32 :=
  k0_pay20 (word c) (k0_pay15 (xM.view.readAt (Elt F) (xOwn c).toLoadRect (xS m c)))
    (k0_pay16 (F := F) (ixM.view.readAt (Elt F) (colOwn c).toLoadRect (ixS m c)))
    (pM.view.readAt (Elt F) (colOwn c).toLoadRect (psel m c)) (k0_pay17 (F := F))
    (k0_pay18 (word c) (xM.view.readAt (Elt F) (xOwn c).toLoadRect (xS m c)) (ixM.view.readAt (Elt F) (colOwn c).toLoadRect (ixS m c))
      (pM.view.readAt (Elt F) (colOwn c).toLoadRect (psel m c)))
    (k0_pay19 (e0 m c)) (constant S128x512 .f32 0x00000000#32) (e1 m c)

/-- The block that lands in slot `s` of device `c` in the first exchange: what its writer sends of `c`'s block. -/
def arr (c : Dev nD) (s : Fin 3) : Vec F S128x512 .bf16 := sent m (src s c) (2 - s)

/-- Device `c`'s block of the routed sum: its own part and the three that arrived. -/
def red (c : Dev nD) : FVec F S128x512 .f32 :=
  k0_pay22 (own m c) (k0_pay7 (arr m c 0)) (k0_pay7 (arr m c 1)) (k0_pay7 (arr m c 2))
/-- The same, narrowed: what it sends in the second exchange. -/
def redN (c : Dev nD) : Vec F S128x512 .bf16 :=
  k0_pay24 (k0_pay23 (own m c) (k0_pay7 (arr m c 0)) (k0_pay7 (arr m c 1)) (k0_pay7 (arr m c 2)))
/-- What lands in slot `s` of device `c` in the second exchange. -/
def arr2 (c : Dev nD) (s : Fin 3) : Vec F S128x512 .bf16 := redN m (src s c)

/-- The result array: the shared product, then each block of the routed sum added in turn. -/
def out0 (c : Dev nD) : (cc0_stg5_0 : Ref sig .tc).ty.Contents (Elt F) := k0_pay21 (xV m c) (sw m c)
/-- After the device's own block is added. -/
def out1 (c : Dev nD) : (cc0_stg5_0 : Ref sig .tc).ty.Contents (Elt F) :=
  (outM.access (outOwn c) : View sig .tc _ _ _).write (Elt F) (out0 m c)
    (k0_pay25 (red m c) (outM.view.readAt (Elt F) (outOwn c).toLoadRect (out0 m c))) Finset.univ
/-- After the block that arrived in slot 0 is added too. -/
def out2 (c : Dev nD) : (cc0_stg5_0 : Ref sig .tc).ty.Contents (Elt F) :=
  (outM.access (outRect c 0) : View sig .tc _ _ _).write (Elt F) (out1 m c)
    (k0_pay26 (outM.view.readAt (Elt F) (outRect c 0).toLoadRect (out1 m c)) (k0_pay7 (arr2 m c 0))) Finset.univ
/-- After the block of slot 1. -/
def out3 (c : Dev nD) : (cc0_stg5_0 : Ref sig .tc).ty.Contents (Elt F) :=
  (outM.access (outRect c 1) : View sig .tc _ _ _).write (Elt F) (out2 m c)
    (k0_pay27 (outM.view.readAt (Elt F) (outRect c 1).toLoadRect (out2 m c)) (k0_pay7 (arr2 m c 1))) Finset.univ
/-- After the block of slot 2: the result at the end. -/
def out4 (c : Dev nD) : (cc0_stg5_0 : Ref sig .tc).ty.Contents (Elt F) :=
  (outM.access (outRect c 2) : View sig .tc _ _ _).write (Elt F) (out3 m c)
    (k0_pay28 (outM.view.readAt (Elt F) (outRect c 2).toLoadRect (out3 m c)) (k0_pay7 (arr2 m c 2))) Finset.univ

end Cert.KernelIdeal.MoE

end
-- ==== Proof.Protocol.lean ====
/-
The exchange between the four devices: the semaphore cells, who pays what into each and in which order.

Each device has thirteen cells, all used once (round 0 only).

* Its barrier cell. The three other devices signal it once each, and its owner waits for 3. The signal of the device that
  owner's copies to slot `s` reach (duty `s`) hands over slot `s` of that device's two landing buffers, whatever they hold.
* Six send cells, one for each of its own copies. The copy of phase 0 to slot `s` gives back the block of the send buffer it reads;
  that of phase 1 gives back the third of the reduced block that it reads.
* Six receive cells, one for each landing slot. The copy that lands there is the peer `src s`'s: in phase 0 it brings that
  peer's part of the owner's block of the routed sum, in phase 1 that peer's reduced block.

A device pays its three signals first, then the receive cells of the phase 0 copies in the order of slots 1, 2, 0, then
those of the phase 1 copies in the same order. Barrier cells are at level 1, the receive cells of phase 0 at 2 and those
of phase 1 at 3, all others at 0: at each wait a device owes only cells at a higher level.
-/
module

public import proofs.«01_k».proof.Proof.Values
public import proofs.«01_k».proof.Proof.Gen.KernelIdeal.Points
public import Idealize.ShloMosaic.Lib.Pipeline.Launch
public import Idealize.ShloMosaic.Lib.Pipeline.Kit
public import Idealize.ShloMosaic.Lib.Ring.Trips
public import Idealize.ShloMosaic.Lib.Tactic

@[expose] public section

noncomputable section

namespace Cert.KernelIdeal.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The bookkeeping of the cells' rounds. -/
abbrev UB : Type := URounds (GSem nD τ sig) (Fin 3)
/-- With the pipeline's own. -/
abbrev UU : Type := UR sig nD τ × UB
local notation "𝕄" => MT nD τ sig Unit (Elt F) ℕ UU ℕ
/-- The pipeline's bookkeeping within it. -/
abbrev EP : Emb (UR sig nD τ) 𝕄 := embL
/-- The rounds' within it. -/
abbrev ER : Emb UB 𝕄 := embR
/-- No loop needs a variant. -/
abbrev 𝒱₀ : Variants := Variants.none

/-! ## The cells -/

/-- The barrier semaphore. -/
abbrev barS : Sem sig := (SemArray.scalar (sig.barrier 0 rfl) : Sems sig S_).sem
/-- The kernel's own transfer semaphores in order: the six send semaphores, then the six receive semaphores, each phase
    by phase and slot by slot. -/
abbrev dq (k : Fin 12) : DmaSem sig := ⟨6 + k.val, by have := k.isLt; change 6 + k.val < 18; omega⟩
/-- The send semaphore of slot `s` in the first exchange; -/
abbrev snd0 (s : Fin 3) : Fin 12 := ⟨s.val, by omega⟩
/-- in the second exchange; -/
abbrev snd1 (s : Fin 3) : Fin 12 := ⟨3 + s.val, by omega⟩
/-- the receive semaphore of slot `s` in the first exchange; -/
abbrev rcv0 (s : Fin 3) : Fin 12 := ⟨6 + s.val, by omega⟩
/-- in the second exchange. -/
abbrev rcv1 (s : Fin 3) : Fin 12 := ⟨9 + s.val, by omega⟩

/-- Device `c`'s barrier cell. -/
abbrev barCell (c : Dev nD) : GSem nD τ sig := ((c : Thread nD τ), .reg barS)
/-- Device `c`'s transfer cell `k`. -/
abbrev dCell (c : Dev nD) (k : Fin 12) : GSem nD τ sig := ((c : Thread nD τ), .dma (dq k))

/-- What one copied block credits. -/
abbrev N : ℕ := (rM : Memref sig .tc .vmem S128x512 .bf16).view.dmaCredit
/-- A copied block credits something. -/
theorem N_pos : 0 < N := (rM : Memref sig .tc .vmem S128x512 .bf16).view.dmaCredit_pos (by decide)
/-- A slot of any of the three buffers credits what a block credits. -/
theorem slot_credit (M : Memref sig .tc .vmem S3x128x512 .bf16) (hM : M = sendM ∨ M = rsM ∨ M = agM) (s : Fin 3) :
    (slot M s).view.dmaCredit = N := by
  rcases hM with rfl | rfl | rfl <;> rfl

/-! ## The payloads -/

variable (m : (ℓ : Loc nD τ sig) → Buf (Elt F) ℓ)

/-- A memref's elements on device `c`, whatever they hold. -/
def anyAt (c : Dev nD) {sh : Shape} {e : EltTy} (M : Memref sig .tc .vmem sh e) : sProp 𝕄 :=
  iprop(∃ f, M.view.loc (c : Thread nD τ) ↦[M.view.set]{fullShare} f)

/-- Elements held, whatever they hold, may be a payload. -/
instance anyAt_storable (c : Dev nD) {sh : Shape} {e : EltTy} (M : Memref sig .tc .vmem sh e) :
    BI.Storable (upEmb : UEmb _ 𝕄) (anyAt (F := F) c M) := by unfold anyAt; infer_instance

/-- The barrier signal that carries slot `s` of the two landing buffers of the device `c`'s copies to slot `s` reach. -/
def barPay (c : Dev nD) (s : Fin 3) : sProp 𝕄 := iprop(anyAt (F := F) (dst s c) (slot rsM s) ∗ anyAt (F := F) (dst s c) (slot agM s))
/-- A third of the reduced block of device `c`. -/
def redPart (c : Dev nD) (s : Fin 3) : sProp 𝕄 := owns (c : Thread nD τ) rM (Ring.shares3 fullShare s) (redN m c)
/-- The block landed in slot `s` in either phase. -/
def got0 (c : Dev nD) (s : Fin 3) : sProp 𝕄 := owns (c : Thread nD τ) (slot rsM s) fullShare (arr m c s)
/-- The block landed in slot `s` in the second exchange. -/
def got1 (c : Dev nD) (s : Fin 3) : sProp 𝕄 := owns (c : Thread nD τ) (slot agM s) fullShare (arr2 m c s)

/-- What the transfer on cell `k` of device `c` hands its owner. -/
def dPay (c : Dev nD) (k : Fin 12) : sProp 𝕄 :=
  if k.val < 3 then anyAt (F := F) c (slot sendM ⟨k.val % 3, Nat.mod_lt _ (by decide)⟩)
  else if k.val < 6 then redPart m c ⟨k.val % 3, Nat.mod_lt _ (by decide)⟩
  else if k.val < 9 then got0 m c ⟨k.val % 3, Nat.mod_lt _ (by decide)⟩
  else got1 m c ⟨k.val % 3, Nat.mod_lt _ (by decide)⟩

/-- A send cell of the first exchange gives back the slot sent from. -/
theorem dPay_snd0 (c : Dev nD) (s : Fin 3) : dPay m c (snd0 s) = anyAt (F := F) c (slot sendM s) := by fin_cases s <;> rfl
/-- A send cell of the second exchange gives back the part of the reduced block lent to the copy. -/
theorem dPay_snd1 (c : Dev nD) (s : Fin 3) : dPay m c (snd1 s) = redPart m c s := by fin_cases s <;> rfl
/-- A receive cell of the first exchange gives the slot with what landed in it. -/
theorem dPay_rcv0 (c : Dev nD) (s : Fin 3) : dPay m c (rcv0 s) = got0 m c s := by fin_cases s <;> rfl
/-- A receive cell of the second exchange likewise. -/
theorem dPay_rcv1 (c : Dev nD) (s : Fin 3) : dPay m c (rcv1 s) = got1 m c s := by fin_cases s <;> rfl

/-- A barrier signal's payload may be stored in its cell; -/
instance barPay_storable (c : Dev nD) (s : Fin 3) : BI.Storable (upEmb : UEmb _ 𝕄) (barPay (F := F) c s) := by unfold barPay; infer_instance
/-- and a transfer's. -/
instance dPay_storable (c : Dev nD) (k : Fin 12) : BI.Storable (upEmb : UEmb _ 𝕄) (dPay m c k) := by
  unfold dPay redPart got0 got1; (repeat' split) <;> infer_instance

/-! ## The schedule -/

/-- A cell is a device's barrier cell. -/
abbrev IsBar (g : GSem nD τ sig) : Prop := g.1.2 = .tc ∧ g.2 = .reg barS

/-- The number of a transfer semaphore among the kernel's own. -/
def kOf (sm : SemLoc sig) : Option (Fin 12) := match sm with
  | .reg _ => none
  | .dma q => if h : 6 ≤ q.val then some ⟨q.val - 6, by have : q.val < 18 := q.isLt; omega⟩ else none

/-- The kernel's transfer semaphore `k` has number `k`. -/
theorem kOf_dq (k : Fin 12) : kOf (.dma (dq k)) = some k := by
  unfold kOf; dsimp only; rw [dif_pos (by omega)]; exact congrArg some (Fin.ext (by simp))

/-- The schedule: one round. The barrier cell has three duties of one unit, one from each peer; each transfer cell has one duty of a block's credit. -/
def rd : Rounds.Schedule (GSem nD τ sig) (Fin 3) 𝕄 where
  duties g r := if r = 0 ∧ IsBar g then Finset.univ else if r = 0 ∧ g.1.2 = .tc ∧ (kOf g.2).isSome then {0} else ∅
  unitless _ := False
  amount g _ _ := if g.2 = .reg barS then 1 else N
  payload g _ d :=
    if g.2 = .reg barS then barPay g.1.1 d
    else match kOf g.2 with
      | some k => dPay m g.1.1 k
      | none => iprop(emp)
  amount_pos g _ _ _ := by
    by_cases h : g.2 = .reg barS
    · rw [if_pos h]; exact Nat.one_pos
    · rw [if_neg h]; exact N_pos

/-- Every payload of the schedule may be stored in its cell. -/
instance rd_payload_storable (g : GSem nD τ sig) (r : ℕ) (d : Fin 3) :
    BI.Storable (upEmb : UEmb _ 𝕄) ((rd (F := F) m).payload g r d) := by
  show BI.Storable upEmb (if g.2 = .reg barS then barPay g.1.1 d else match kOf g.2 with | some k => dPay m g.1.1 k | none => iprop(emp))
  split
  · infer_instance
  · split <;> infer_instance

section Sched
variable (c : Dev nD) (k : Fin 12)

/-- A transfer semaphore is not the barrier. -/
theorem dma_ne_bar : (SemLoc.dma (dq k) : SemLoc sig) ≠ .reg barS := fun h => by cases h

/-- The barrier cell has the three duties; -/
theorem duties_bar : (rd (F := F) m).duties (barCell c) 0 = Finset.univ := by dsimp only [rd]; exact if_pos ⟨rfl, rfl, rfl⟩
/-- a transfer cell has one; -/
theorem duties_dma : (rd (F := F) m).duties (dCell c k) 0 = {0} := by
  dsimp only [rd]; rw [if_neg (fun h => dma_ne_bar k h.2.2)]; exact if_pos ⟨rfl, rfl, by rw [kOf_dq]; rfl⟩
/-- and no cell has any after the first round. -/
theorem duties_later (g : GSem nD τ sig) : ∀ r, 1 ≤ r → (rd (F := F) m).duties g r = ∅ :=
  fun r hr => by dsimp only [rd]; rw [if_neg fun h => by omega, if_neg fun h => by omega]

/-- A barrier signal is one unit; -/
theorem amount_bar (d : Fin 3) : (rd (F := F) m).amount (barCell c) 0 d = 1 := by dsimp only [rd]; exact if_pos rfl
/-- a transfer is a block's credit. -/
theorem amount_dma (d : Fin 3) : (rd (F := F) m).amount (dCell c k) 0 d = N := by dsimp only [rd]; exact if_neg (dma_ne_bar k)

/-- The barrier cell's round is three units; -/
theorem expect_bar : (rd (F := F) m).expect (barCell c) 0 = 3 := by
  unfold Schedule.expect Schedule.amountOf
  rw [duties_bar, Finset.sum_congr rfl fun d _ => amount_bar m c d, Finset.sum_const, Finset.card_univ, Fintype.card_fin, smul_eq_mul]
/-- a transfer cell's is one block's credit. -/
theorem expect_dma : (rd (F := F) m).expect (dCell c k) 0 = N := by
  unfold Schedule.expect Schedule.amountOf; rw [duties_dma, Finset.sum_singleton, amount_dma]

/-- A barrier signal's payload in the schedule; -/
theorem payload_bar (d : Fin 3) : (rd (F := F) m).payload (barCell c) 0 d = barPay c d := by dsimp only [rd]; exact if_pos rfl
/-- a transfer's. -/
theorem payload_dma (d : Fin 3) : (rd (F := F) m).payload (dCell c k) 0 d = dPay m c k := by
  dsimp only [rd]; rw [if_neg (dma_ne_bar k), kOf_dq]

/-- A separating product over three slots, written out. -/
theorem bigSep_fin3 (Φ : Fin 3 → sProp 𝕄) : bigSep Finset.univ Φ = iprop(Φ 0 ∗ Φ 1 ∗ Φ 2) := bigSep_univ_eq_bigSepL [0, 1, 2] (by decide) (by decide) Φ

/-- All of a barrier cell's payloads. -/
theorem rest_bar : bigSep ((rd (F := F) m).duties (barCell c) 0 \ ∅) (fun d => (rd (F := F) m).payload (barCell c) 0 d)
    = iprop(barPay c 0 ∗ barPay c 1 ∗ barPay c 2) := by
  rw [Finset.sdiff_empty, duties_bar, bigSep_fin3, payload_bar, payload_bar, payload_bar]
/-- All of a transfer cell's payloads: its one. -/
theorem rest_dma : bigSep ((rd (F := F) m).duties (dCell c k) 0 \ ∅) (fun d => (rd (F := F) m).payload (dCell c k) 0 d) = dPay m c k := by
  rw [Finset.sdiff_empty, duties_dma, bigSep_singleton, payload_dma]

end Sched

/-! ## What a device owes, and the levels -/

/-- A list of payments still owed, the next to be paid first. -/
def owe : List (GSem nD τ sig × ℕ) → CellTallies nD τ sig Unit
  | [] => 0
  | x :: l => owe l + tallyAt x.1 () x.2

/-- What device `c` owes its peers' receive cells in phase 1, from the copy to slot 1 on, and what it owes from the copies of phase 0 on. -/
def bill1 (c : Dev nD) : List (GSem nD τ sig × ℕ) :=
  [(dCell (dst 1 c) (rcv1 1), N), (dCell (dst 2 c) (rcv1 2), N), (dCell (dst 0 c) (rcv1 0), N)]
/-- What device `c` owes from the first exchange's copies on. -/
def bill0 (c : Dev nD) : List (GSem nD τ sig × ℕ) :=
  (dCell (dst 1 c) (rcv0 1), N) :: (dCell (dst 2 c) (rcv0 2), N) :: (dCell (dst 0 c) (rcv0 0), N) :: bill1 c
/-- All it owes: three signals first. -/
def bill (c : Dev nD) : List (GSem nD τ sig × ℕ) :=
  (barCell (src 0 c), 1) :: (barCell (src 1 c), 1) :: (barCell (src 2 c), 1) :: bill0 c

/-- One level to each cell of the device's thread. -/
def L (g : GSem nD τ sig) : Finset Unit := if g.1.2 = .tc then {()} else ∅
/-- The levels: the barrier below the first exchange's arrivals, those below the second's, and every send cell lowest. -/
def lv (g : GSem nD τ sig) (_ : Unit) : ℕ := match g.2 with
  | .reg _ => 1
  | .dma q => if 15 ≤ q.val then 3 else if 12 ≤ q.val then 2 else 0

/-- Cells of other threads have none. -/
theorem L_of_ne (g : GSem nD τ sig) (h : g.1.2 ≠ .tc) : L g = ∅ := if_neg h
/-- A cell of the device's thread has the one. -/
theorem L_tc (c : Dev nD) (sm : SemLoc sig) : L ((c : Thread nD τ), sm) = {()} := if_pos rfl

/-- A cell on which something is owed is in the list. -/
theorem owe_pos {l : List (GSem nD τ sig × ℕ)} {g : GSem nD τ sig} {u : Unit} (h : 0 < owe l g u) : ∃ x ∈ l, x.1 = g := by
  induction l with
  | nil => exact absurd h (Nat.lt_irrefl 0)
  | cons x l ih =>
    unfold owe at h
    rw [Pi.add_apply, Finsupp.add_apply, tallyAt_apply] at h
    by_cases hx : g = x.1 ∧ u = ()
    · exact ⟨x, List.mem_cons_self, hx.1.symm⟩
    · rw [if_neg hx, Nat.add_zero] at h
      obtain ⟨y, hy, e⟩ := ih h
      exact ⟨y, List.mem_cons_of_mem _ hy, e⟩

/-- A wait is allowed while all that is owed is at higher levels. -/
theorem mayWait_list (c : Dev nD) (sm : SemLoc sig) (l : List (GSem nD τ sig × ℕ))
    (h : ∀ x ∈ l, x.1.1.2 = .tc ∧ lv ((c : Thread nD τ), sm) () < lv x.1 ()) :
    (levAts L lv : sProp 𝕄) ⊢ MayWait (c : Thread nD τ) sm () (owe l) :=
  MayOwe.of_cut (L := L) (lev := lv) (lv ((c : Thread nD τ), sm) ())
    (fun p hp => by rw [Finset.mem_singleton.mp hp, L_tc]; exact Finset.mem_singleton_self _)
    (fun g u hg => by
      obtain ⟨x, hx, rfl⟩ := owe_pos hg
      rw [L, if_pos (h x hx).1]; exact Finset.mem_singleton_self _)
    (fun p hp => by rw [Finset.mem_singleton.mp hp])
    (fun g u hg => by obtain ⟨x, hx, rfl⟩ := owe_pos hg; exact (h x hx).2)

/-- What is owed in the second exchange is at level 3; -/
theorem bill1_lv (c : Dev nD) : ∀ x ∈ bill1 c, x.1.1.2 = .tc ∧ 2 < lv x.1 () := by
  intro x hx
  simp only [bill1, List.mem_cons, List.not_mem_nil, or_false] at hx
  rcases hx with rfl | rfl | rfl <;> exact ⟨rfl, by show 2 < 3; decide⟩
/-- what is owed from the first exchange on is above the barrier's level; -/
theorem bill0_lv (c : Dev nD) : ∀ x ∈ bill0 c, x.1.1.2 = .tc ∧ 1 < lv x.1 () := by
  intro x hx
  simp only [bill0, List.mem_cons] at hx
  rcases hx with rfl | rfl | rfl | hx
  · exact ⟨rfl, by show 1 < 2; decide⟩
  · exact ⟨rfl, by show 1 < 2; decide⟩
  · exact ⟨rfl, by show 1 < 2; decide⟩
  · exact ⟨(bill1_lv c x hx).1, lt_trans (by decide) (bill1_lv c x hx).2⟩
/-- and all that is owed is above the send cells'. -/
theorem bill_lv (c : Dev nD) : ∀ x ∈ bill c, x.1.1.2 = .tc ∧ 0 < lv x.1 () := by
  intro x hx
  simp only [bill, List.mem_cons] at hx
  rcases hx with rfl | rfl | rfl | hx
  · exact ⟨rfl, Nat.one_pos⟩
  · exact ⟨rfl, Nat.one_pos⟩
  · exact ⟨rfl, Nat.one_pos⟩
  · exact ⟨(bill0_lv c x hx).1, lt_trans Nat.one_pos (bill0_lv c x hx).2⟩

end Cert.KernelIdeal.MoE

end
-- ==== Proof.Slots.lean ====
/-
Buffers of three blocks taken slot by slot: loading and storing one slot, and the whole buffer as its three slots.
-/
module

public import proofs.«01_k».proof.Proof.Protocol
public import Idealize.ShloMosaic.Lib.Pipeline.ValueKit.Geometry

@[expose] public section

noncomputable section

namespace Cert.KernelIdeal.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One slot -/

section Slot
variable (M : Memref sig .tc .vmem S3x128x512 .bf16) (s : Fin 3)

/-- Reading a slot is loading its rectangle and dropping the unit axis. -/
theorem slot_read (f : M.view.ty.Contents (Elt F)) :
    (slot M s).view.read (Elt F) f = shapeCast S128x512 (M.view.readAt (Elt F) (slotRect s).toLoadRect f) shapeCasts_S1x128x512_S128x512 := rfl

/-- A slot's elements are those of its rectangle. -/
theorem slot_set : (slot M s).view.set = (M.view.slice (slotRect s)).set := by
  rw [Memref.set_view_squeeze]

/-- A slot that reads `V` is loaded as `V` with a leading unit axis. -/
theorem slot_load (f : M.view.ty.Contents (Elt F)) (V : Vec F S128x512 .bf16) (h : (slot M s).view.read (Elt F) f = V) :
    M.view.readAt (Elt F) (slotRect s).toLoadRect f = k0_pay7 V := by
  rw [← h, slot_read]; exact (shapeCast_shapeCast _ _ _).symm

/-- Storing `V` with a leading unit axis makes the slot read `V`. -/
theorem slot_store (f : M.view.ty.Contents (Elt F)) (V : Vec F S128x512 .bf16) :
    (slot M s).view.read (Elt F) ((M.access (slotRect s)).write (Elt F) f (k0_pay7 V) Finset.univ) = V := by
  have h : M.view.readAt (Elt F) (slotRect s).toLoadRect ((M.access (slotRect s)).write (Elt F) f (k0_pay7 V) Finset.univ) = k0_pay7 V :=
    View.read_write_univ (v := M.access (slotRect s)) f (k0_pay7 V)
  rw [slot_read, h]; exact shapeCast_shapeCast _ _ _

variable (c : Dev nD)

/-- Loading a slot that holds `V`. -/
theorem wp_load_slot {q : PosShare TreeShare} {V : Vec F S128x512 .bf16} {α : Type} {Q : α → sProp 𝕄}
    {hl : M.view.LoadsAt (slotRect s).toLoadRect}
    {k : ((slotRect s).toLoadRect.shape.Idx → Elt F .bf16) → Prog (TpuEff nD τ sig (Elt F) Λ₀ .tc) α} :
    (owns (c : Thread nD τ) (slot M s) q V : sProp 𝕄)
      ⊢ iprop((owns (c : Thread nD τ) (slot M s) q V
          -∗ wp frame (wpE (defs₀ (F := F)) 𝒱₀ (c : Thread nD τ) none) Set.univ (k (k0_pay7 V)) Q)
        -∗ wp frame (wpE (defs₀ (F := F)) 𝒱₀ (c : Thread nD τ) none) Set.univ (.op (.load M (slotRect s).toLoadRect hl) k) Q) := by
  unfold owns
  iintro ⟨%f, %hf, H⟩ Hk
  iapply (wp_load 𝒱₀ (c : Thread nD τ) none Set.univ (m := M) (S := (slot M s).view.set)
    (by rw [slot_set, View.set_slice]; exact subset_rfl)) $$ H
  iintro H
  rw [slot_load M s f V hf]
  iapply Hk
  iexists f; isplitr; · ipureintro; exact hf
  iexact H

/-- Loading a slot whatever it holds. -/
theorem wp_load_slot_any {α : Type} {Q : α → sProp 𝕄} {hl : M.view.LoadsAt (slotRect s).toLoadRect}
    {k : ((slotRect s).toLoadRect.shape.Idx → Elt F .bf16) → Prog (TpuEff nD τ sig (Elt F) Λ₀ .tc) α} :
    (anyAt (F := F) c (slot M s) : sProp 𝕄)
      ⊢ iprop((∀ v, anyAt (F := F) c (slot M s)
          -∗ wp frame (wpE (defs₀ (F := F)) 𝒱₀ (c : Thread nD τ) none) Set.univ (k v) Q)
        -∗ wp frame (wpE (defs₀ (F := F)) 𝒱₀ (c : Thread nD τ) none) Set.univ (.op (.load M (slotRect s).toLoadRect hl) k) Q) := by
  unfold anyAt
  iintro ⟨%f, H⟩ Hk
  iapply (wp_load 𝒱₀ (c : Thread nD τ) none Set.univ (m := M) (S := (slot M s).view.set)
    (by rw [slot_set, View.set_slice]; exact subset_rfl)) $$ H
  iintro H
  iapply Hk
  iexists f; iexact H

/-- Storing a block into a slot whatever it held. -/
theorem wp_store_slot {V : Vec F S128x512 .bf16} {w : (slotRect s).shape.Idx → Elt F .bf16} (hw : w = k0_pay7 V)
    {α : Type} {Q : α → sProp 𝕄} {hx : (M.access (slotRect s)).Stores Finset.univ}
    {hm : (Finset.univ : Finset (slotRect s).shape.Idx) = Finset.univ ∨ ∀ a, (slotRect s).stride a = 1}
    {k : PUnit → Prog (TpuEff nD τ sig (Elt F) Λ₀ .tc) α} :
    (anyAt (F := F) c (slot M s) : sProp 𝕄)
      ⊢ iprop((owns (c : Thread nD τ) (slot M s) fullShare V
          -∗ wp frame (wpE (defs₀ (F := F)) 𝒱₀ (c : Thread nD τ) none) Set.univ (k ⟨⟩) Q)
        -∗ wp frame (wpE (defs₀ (F := F)) 𝒱₀ (c : Thread nD τ) none) Set.univ (.op (.store M (slotRect s) w Finset.univ hx hm) k) Q) := by
  subst hw
  unfold anyAt owns
  iintro ⟨%f, H⟩ Hk
  iapply (wp_store 𝒱₀ (c : Thread nD τ) none Set.univ (m := M) (r := slotRect s) (Mk := Finset.univ) (S := (slot M s).view.set)
    (by rw [slot_set]; exact subset_rfl)) $$ H
  iintro H
  iapply Hk
  iexists _; isplitr; · ipureintro; exact slot_store M s f V
  iexact H

/-- A slot that holds `V` holds something. -/
theorem any_of_owns (V : Vec F S128x512 .bf16) :
    (owns (c : Thread nD τ) (slot M s) fullShare V : sProp 𝕄) ⊢ anyAt (F := F) c (slot M s) := by
  unfold owns anyAt
  iintro ⟨%f, -, H⟩
  iexists f; iexact H

end Slot

/-! ## The three slots of a whole buffer -/

/-- The rectangles of two slots share no element. -/
theorem slotRect_disjoint {s s' : Fin 3} (h : s ≠ s') : Disjoint (slotRect s).set (slotRect s').set := by
  refine Rect.unit_disjoint (0 : Fin 3) ?_
  show s.val + 1 ≤ s'.val ∨ s'.val + 1 ≤ s.val
  have : s.val ≠ s'.val := fun e => h (Fin.ext e)
  omega

/-- Every element of the buffer is in some slot. -/
theorem slotRect_cover (x : S3x128x512.Idx) : ∃ s : Fin 3, x ∈ (slotRect s).set := by
  refine ⟨⟨(x 0).val, (x 0).isLt⟩, Rect.mem_set_unit.mpr fun a => ?_⟩
  have hx := (x a).isLt
  fin_cases a
  · exact ⟨le_rfl, Nat.lt_succ_self _⟩
  · exact ⟨Nat.zero_le _, by simpa using hx⟩
  · exact ⟨Nat.zero_le _, by simpa using hx⟩

section Whole
variable (c : Dev nD) (ℓ : Loc nD τ sig) (K : Fin 3 → Finset (Idx ℓ))

/-- A location held whole is its three parts, whatever it holds. -/
theorem split3 (hd : ∀ s s', s ≠ s' → Disjoint (K s) (K s')) (hu : Finset.univ.biUnion K = Finset.univ) :
    iprop(∃ f : Buf (Elt F) ℓ, ℓ ↦{fullShare} f)
      ⊢ (iprop((∃ f, ℓ ↦[K 0]{fullShare} f) ∗ (∃ f, ℓ ↦[K 1]{fullShare} f) ∗ (∃ f, ℓ ↦[K 2]{fullShare} f)) : sProp 𝕄) := by
  iintro ⟨%f, H⟩
  ihave H' := (Entails.of_eq (show (ℓ ↦{fullShare} f : sProp 𝕄) = iprop((ℓ ↦[K 0]{fullShare} f) ∗ (ℓ ↦[K 1]{fullShare} f) ∗ (ℓ ↦[K 2]{fullShare} f)) from by
    rw [← hu, pointsTo_biUnion Finset.univ K (fun s _ s' _ h => hd s s' h), bigSep_fin3])) $$ H
  icases H' with ⟨H0, H1, H2⟩
  isplitl [H0]; · iexists f; iexact H0
  isplitl [H1]; · iexists f; iexact H1
  iexists f; iexact H2

/-- Three disjoint parts that make up a buffer, each holding something, are the buffer holding something. -/
theorem join3 (hd : ∀ s s', s ≠ s' → Disjoint (K s) (K s')) (hu : Finset.univ.biUnion K = Finset.univ) :
    (iprop((∃ f, ℓ ↦[K 0]{fullShare} f) ∗ (∃ f, ℓ ↦[K 1]{fullShare} f) ∗ (∃ f, ℓ ↦[K 2]{fullShare} f)) : sProp 𝕄)
      ⊢ iprop(∃ f : Buf (Elt F) ℓ, ℓ ↦{fullShare} f) := by
  iintro ⟨⟨%f0, H0⟩, ⟨%f1, H1⟩, ⟨%f2, H2⟩⟩
  ihave H := (pointsTo_biUnion_join Finset.univ K (fun s => match s with | 0 => f0 | 1 => f1 | 2 => f2) f0 (fun s _ s' _ h => hd s s' h)) $$ [H0 H1 H2]
  · rw [bigSep_fin3]
    isplitl [H0]; · iexact H0
    isplitl [H1]; · iexact H1
    iexact H2
  icases H with ⟨%g, -, H⟩
  iexists g
  rw [hu]; iexact H

end Whole

/-- The three slots make up the buffer. -/
theorem cover_univ (K : Fin 3 → Finset S3x128x512.Idx) (h : ∀ s, K s = (slotRect s).set) : Finset.univ.biUnion K = Finset.univ := by
  ext x; simp only [Finset.mem_biUnion, Finset.mem_univ, true_and, iff_true]
  obtain ⟨s, hs⟩ := slotRect_cover x
  exact ⟨s, by rw [h s]; exact hs⟩

/-- The elements of a slot of the send buffer; -/
theorem send_set (s : Fin 3) : (slot sendM s).view.set = (slotRect s).set := by rw [slot_set]; exact View.set_slice_whole _ _
/-- of the first exchange's landing buffer; -/
theorem rs_set (s : Fin 3) : (slot rsM s).view.set = (slotRect s).set := by rw [slot_set]; exact View.set_slice_whole _ _
/-- of the second's. -/
theorem ag_set (s : Fin 3) : (slot agM s).view.set = (slotRect s).set := by rw [slot_set]; exact View.set_slice_whole _ _

/-- Two slots share no element. -/
theorem slots_disjoint : ∀ s s' : Fin 3, s ≠ s' → Disjoint (slotRect s).set (slotRect s').set := fun _ _ h => slotRect_disjoint h
/-- The slots' elements are all the buffer's. -/
theorem slots_cover : Finset.univ.biUnion (fun s : Fin 3 => (slotRect s).set) = Finset.univ := cover_univ _ fun _ => rfl

/-- A slot of the send buffer, whatever it holds, by its elements. -/
theorem send_any (c : Dev nD) (s : Fin 3) : (anyAt (F := F) c (slot sendM s) : sProp 𝕄)
    = iprop(∃ f : Buf (Elt F) ((c : Thread nD τ).loc cc0_scratch3), ((c : Thread nD τ).loc cc0_scratch3) ↦[(slotRect s).set]{fullShare} f) := by
  unfold anyAt
  have h := send_set s
  generalize (slot sendM s).view.set = K at h
  subst h
  rfl

/-- The send buffer, whatever it holds, is its three slots. -/
theorem send_split (c : Dev nD) : iprop(∃ f : Buf (Elt F) ((c : Thread nD τ).loc cc0_scratch3), ((c : Thread nD τ).loc cc0_scratch3) ↦{fullShare} f)
    ⊢ (iprop(anyAt (F := F) c (slot sendM 0) ∗ anyAt (F := F) c (slot sendM 1) ∗ anyAt (F := F) c (slot sendM 2)) : sProp 𝕄) := by
  rw [send_any, send_any, send_any]
  exact split3 ((c : Thread nD τ).loc cc0_scratch3) (fun s => (slotRect s).set) slots_disjoint slots_cover

/-- The send buffer's three slots are the send buffer. -/
theorem send_join (c : Dev nD) : (iprop(anyAt (F := F) c (slot sendM 0) ∗ anyAt (F := F) c (slot sendM 1) ∗ anyAt (F := F) c (slot sendM 2)) : sProp 𝕄)
    ⊢ iprop(∃ f : Buf (Elt F) ((c : Thread nD τ).loc cc0_scratch3), ((c : Thread nD τ).loc cc0_scratch3) ↦{fullShare} f) := by
  rw [send_any, send_any, send_any]
  exact join3 ((c : Thread nD τ).loc cc0_scratch3) (fun s => (slotRect s).set) slots_disjoint slots_cover

/-- A slot of the landing buffer of phase 0, whatever it holds, by its elements. -/
theorem rs_any (c : Dev nD) (s : Fin 3) : (anyAt (F := F) c (slot rsM s) : sProp 𝕄)
    = iprop(∃ f : Buf (Elt F) ((c : Thread nD τ).loc cc0_scratch4), ((c : Thread nD τ).loc cc0_scratch4) ↦[(slotRect s).set]{fullShare} f) := by
  unfold anyAt
  have h := rs_set s
  generalize (slot rsM s).view.set = K at h
  subst h
  rfl

/-- The landing buffer of phase 0, whatever it holds, is its three slots. -/
theorem rs_split (c : Dev nD) : iprop(∃ f : Buf (Elt F) ((c : Thread nD τ).loc cc0_scratch4), ((c : Thread nD τ).loc cc0_scratch4) ↦{fullShare} f)
    ⊢ (iprop(anyAt (F := F) c (slot rsM 0) ∗ anyAt (F := F) c (slot rsM 1) ∗ anyAt (F := F) c (slot rsM 2)) : sProp 𝕄) := by
  rw [rs_any, rs_any, rs_any]
  exact split3 ((c : Thread nD τ).loc cc0_scratch4) (fun s => (slotRect s).set) slots_disjoint slots_cover

/-- The first landing buffer's three slots are that buffer. -/
theorem rs_join (c : Dev nD) : (iprop(anyAt (F := F) c (slot rsM 0) ∗ anyAt (F := F) c (slot rsM 1) ∗ anyAt (F := F) c (slot rsM 2)) : sProp 𝕄)
    ⊢ iprop(∃ f : Buf (Elt F) ((c : Thread nD τ).loc cc0_scratch4), ((c : Thread nD τ).loc cc0_scratch4) ↦{fullShare} f) := by
  rw [rs_any, rs_any, rs_any]
  exact join3 ((c : Thread nD τ).loc cc0_scratch4) (fun s => (slotRect s).set) slots_disjoint slots_cover

/-- A slot of the landing buffer of phase 1, whatever it holds, by its elements. -/
theorem ag_any (c : Dev nD) (s : Fin 3) : (anyAt (F := F) c (slot agM s) : sProp 𝕄)
    = iprop(∃ f : Buf (Elt F) ((c : Thread nD τ).loc cc0_scratch5), ((c : Thread nD τ).loc cc0_scratch5) ↦[(slotRect s).set]{fullShare} f) := by
  unfold anyAt
  have h := ag_set s
  generalize (slot agM s).view.set = K at h
  subst h
  rfl

/-- The landing buffer of phase 1, whatever it holds, is its three slots. -/
theorem ag_split (c : Dev nD) : iprop(∃ f : Buf (Elt F) ((c : Thread nD τ).loc cc0_scratch5), ((c : Thread nD τ).loc cc0_scratch5) ↦{fullShare} f)
    ⊢ (iprop(anyAt (F := F) c (slot agM 0) ∗ anyAt (F := F) c (slot agM 1) ∗ anyAt (F := F) c (slot agM 2)) : sProp 𝕄) := by
  rw [ag_any, ag_any, ag_any]
  exact split3 ((c : Thread nD τ).loc cc0_scratch5) (fun s => (slotRect s).set) slots_disjoint slots_cover

/-- The second landing buffer's three slots are that buffer. -/
theorem ag_join (c : Dev nD) : (iprop(anyAt (F := F) c (slot agM 0) ∗ anyAt (F := F) c (slot agM 1) ∗ anyAt (F := F) c (slot agM 2)) : sProp 𝕄)
    ⊢ iprop(∃ f : Buf (Elt F) ((c : Thread nD τ).loc cc0_scratch5), ((c : Thread nD τ).loc cc0_scratch5) ↦{fullShare} f) := by
  rw [ag_any, ag_any, ag_any]
  exact join3 ((c : Thread nD τ).loc cc0_scratch5) (fun s => (slotRect s).set) slots_disjoint slots_cover

/-! ## The two narrowed expert matrices -/

/-- The buffer of the narrowed expert matrices after both stores. -/
theorem eb_read0 (f : (cc0_scratch1 : Ref sig .tc).ty.Contents (Elt F)) (a b : Vec F S1x256x512 .bf16) :
    ebM.view.readAt (Elt F) eRect0.toLoadRect
      ((ebM.access eRect1 : View sig .tc _ _ _).write (Elt F) ((ebM.access eRect0 : View sig .tc _ _ _).write (Elt F) f a Finset.univ) b Finset.univ) = a := by
  have hd : Disjoint eRect0.set eRect1.set := Rect.unit_disjoint (0 : Fin 3) (Or.inl (by decide))
  have h : ebM.view.readAt (Elt F) eRect0.toLoadRect
      ((ebM.access eRect1 : View sig .tc _ _ _).write (Elt F) ((ebM.access eRect0 : View sig .tc _ _ _).write (Elt F) f a Finset.univ) b Finset.univ)
      = (ebM.access eRect0 : View sig .tc _ _ _).read (Elt F) ((ebM.access eRect0 : View sig .tc _ _ _).write (Elt F) f a Finset.univ) := by
    show (ebM.access eRect0 : View sig .tc _ _ _).read (Elt F) _ = _
    refine funext fun x => ?_
    rw [View.read_apply, View.read_apply, View.write_of_not_mem]
    intro hx
    exact Finset.disjoint_left.mp (by
      show Disjoint (ebM.access eRect0).set (ebM.access eRect1).set
      rw [show (ebM.access eRect0).set = eRect0.set from View.set_slice_whole _ _, show (ebM.access eRect1).set = eRect1.set from View.set_slice_whole _ _]
      exact hd) (View.emb_mem_set _ x) hx
  rw [h, View.read_write_univ]
/-- The second narrowed matrix is loaded as it was stored. -/
theorem eb_read1 (f : (cc0_scratch1 : Ref sig .tc).ty.Contents (Elt F)) (b : Vec F S1x256x512 .bf16) :
    ebM.view.readAt (Elt F) eRect1.toLoadRect ((ebM.access eRect1 : View sig .tc _ _ _).write (Elt F) f b Finset.univ) = b :=
  View.read_write_univ (v := ebM.access eRect1) f b

end Cert.KernelIdeal.MoE

end
-- ==== Proof.Steps.lean ====
/-
One rule for each kind of step the exchange takes: a barrier signal, the barrier wait, a copy of either phase, and the wait for a copy.
-/
module

public import proofs.«01_k».proof.Proof.Slots

@[expose] public section

noncomputable section

namespace Cert.KernelIdeal.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The facts every device shares -/

/-- A device's cells: the barrier cell, then the twelve transfer cells. -/
def csem (k : Fin 13) : SemLoc sig := if h : k.val = 0 then .reg barS else .dma (dq ⟨k.val - 1, by omega⟩)
/-- Cell `k` of a device. -/
def kcell (ck : Dev nD × Fin 13) : GSem nD τ sig := ((ck.1 : Thread nD τ), csem ck.2)

/-- The first of a device's cells is its barrier cell; -/
theorem kcell_bar (c : Dev nD) : kcell (c, 0) = barCell c := rfl
/-- the others are its transfer cells. -/
theorem kcell_dma (c : Dev nD) (k : Fin 12) : kcell (c, k.succ) = dCell c k := by
  unfold kcell csem; dsimp only; rw [dif_neg (by simp)]; rfl

/-- Every cell's invariant, round 0 of every cell reached, and the levels. -/
def facts (K : Dev nD × Fin 13 → ℕ) : sProp 𝕄 :=
  iprop((bigSep Finset.univ fun ck : Dev nD × Fin 13 => cellInv ER (rd m) (K ck) (kcell ck))
    ∗ (bigSep Finset.univ fun ck : Dev nD × Fin 13 => reached ER (kcell ck) 0) ∗ levAts L lv)

/-- The shared facts can be used any number of times. -/
instance facts_persistent (K : Dev nD × Fin 13 → ℕ) : BI.Persistent (facts m K) := by unfold facts; infer_instance

section Facts
variable (K : Dev nD × Fin 13 → ℕ) (c : Dev nD) (k : Fin 12)

/-- The levels, from the shared facts. -/
theorem facts_lev : facts m K ⊢ levAts L lv := by unfold facts; iintro ⟨-, -, H⟩; iexact H
/-- One cell's invariant from all of them. -/
theorem invs_elim (ck : Dev nD × Fin 13) :
    (bigSep Finset.univ fun ck : Dev nD × Fin 13 => (cellInv ER (rd m) (K ck) (kcell ck) : sProp 𝕄)) ⊢ cellInv ER (rd m) (K ck) (kcell ck) :=
  bigSep_elim (Finset.mem_univ ck)
/-- One cell's first round from all of them. -/
theorem reacheds_elim (ck : Dev nD × Fin 13) :
    (bigSep Finset.univ fun ck : Dev nD × Fin 13 => (reached ER (kcell ck) 0 : sProp 𝕄)) ⊢ reached ER (kcell ck) 0 :=
  bigSep_elim (Finset.mem_univ ck)
/-- A cell's invariant, from the shared facts; -/
theorem facts_inv (ck : Dev nD × Fin 13) : facts m K ⊢ cellInv ER (rd m) (K ck) (kcell ck) := by
  unfold facts; iintro ⟨H, -, -⟩
  iapply (invs_elim m K ck); iexact H
/-- and that its first round is reached. -/
theorem facts_reached (ck : Dev nD × Fin 13) : facts m K ⊢ reached ER (kcell ck) 0 := by
  unfold facts; iintro ⟨-, H, -⟩
  iapply (reacheds_elim (F := F) ck); iexact H
/-- The barrier cell's invariant. -/
theorem inv_bar : facts m K ⊢ cellInv ER (rd m) (K (c, 0)) (barCell c) := facts_inv m K (c, 0)
/-- A transfer cell's invariant. -/
theorem inv_dma : facts m K ⊢ cellInv ER (rd m) (K (c, k.succ)) (dCell c k) := by rw [← kcell_dma]; exact facts_inv m K (c, k.succ)
/-- The barrier cell's first round is reached; -/
theorem reached_bar : facts m K ⊢ reached ER (barCell c) 0 := facts_reached m K (c, 0)
/-- a transfer cell's too. -/
theorem reached_dma : facts m K ⊢ reached ER (dCell c k) 0 := by rw [← kcell_dma]; exact facts_reached m K (c, k.succ)

end Facts

/-- What device `c` still owes is the list `l`. -/
def due (c : Dev nD) (l : List (GSem nD τ sig × ℕ)) : sProp 𝕄 := iprop(∃ W, owes (c : Thread nD τ) (owe l) W)

section Steps
variable (K : Dev nD × Fin 13 → ℕ) (c : Dev nD)

/-- The signal to the peer `n` whose copies reach slot `s` here: it carries slot `s` of both landing buffers. -/
theorem step_signal (s : Fin 3) (n : Dev nD) (hn : n = src s c) (l : List (GSem nD τ sig × ℕ))
    {α : Type} {Q : α → sProp 𝕄} {k : PUnit → Prog (TpuEff nD τ sig (Elt F) Λ₀ .tc) α} :
    iprop(facts m K ∗ due c ((barCell (src s c), 1) :: l) ∗ dutyTok ER (barCell (src s c)) 0 s
        ∗ anyAt (F := F) c (slot rsM s) ∗ anyAt (F := F) c (slot agM s))
      ⊢ iprop((due c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  unfold due
  iintro ⟨#HF, ⟨%W, HO⟩, Ht, Hr, Ha⟩ Hk
  iapply (Rounds.wp_signal 𝒱₀ ER (rd m) (c : Thread nD τ) none (dst := (src s c : Thread nD τ)) (κ := K (src s c, 0))
      (d := s) (by rw [duties_bar]; exact Finset.mem_univ _) (amount_bar m (src s c) s) () (owe l) rfl) $$ [HO Ht Hr Ha]
  · isplitr; · iapply (inv_bar m K (src s c)); iexact HF
    isplitl [HO]; · iexact HO
    isplitl [Ht]; · iexact Ht
    isplitl [Hr Ha]
    · rw [payload_bar]; unfold barPay; rw [dst_src]
      isplitl [Hr]; · iexact Hr
      iexact Ha
    · iapply (reached_bar m K (src s c)); iexact HF
  iintro HO
  iapply Hk; iexists W; iexact HO

/-- The wait for all three signals: the slots this device's copies will land in. -/
theorem step_barrier (l : List (GSem nD τ sig × ℕ)) (hl : ∀ x ∈ l, x.1.1.2 = .tc ∧ 1 < lv x.1 ())
    {α : Type} {Q : α → sProp 𝕄} {k : PUnit → Prog (TpuEff nD τ sig (Elt F) Λ₀ .tc) α} :
    iprop(facts m K ∗ due c l ∗ cred (tallyAt (barCell c) () 3) ∗ atPos ER (barCell c) 0 ∅ 0)
      ⊢ iprop(((due c l ∗ semVal (barCell c) 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  unfold due
  iintro ⟨#HF, ⟨%W, HO⟩, Hc, Hat⟩ Hk
  iapply (Rounds.wp_wait_rest_token 𝒱₀ ER (rd m) (c : Thread nD τ) none (κ := K (c, 0))
      (wpE_semWait_eq 𝒱₀ (c : Thread nD τ) none Set.univ) (Set.mem_univ _) () (O := owe l) (W := W) (R := 0) (m := 0) (T := ∅)
      (by rw [expect_bar])) $$ [Hc HO Hat]
  · isplitr; · iapply (inv_bar m K c); iexact HF
    isplitl [Hc]; · iexact Hc
    isplitl [HO]; · iexact HO
    isplitr; · iapply (mayWait_list c (.reg barS) l hl); iapply (facts_lev m K); iexact HF
    iexact Hat
  iintro ⟨HO, Hat, -, Hpay⟩
  ihave Hp := (Entails.of_eq (rest_bar m c)) $$ Hpay
  imod (Rounds.cell_close ER (rd m) (Set.mem_univ (K (c, 0))) (fun h => h) (R := 0 + 1) (duties_later m (barCell c))) $$ [Hat] with Hz
  · isplitr; · iapply (inv_bar m K c); iexact HF
    iexact Hat
  iapply Hk
  isplitl [HO]; · iexists _; iexact HO
  isplitl [Hz]; · iexact Hz
  iexact Hp

/-- The wait for the copy on transfer cell `j`: what it hands over, and the cell closed at zero. -/
theorem step_wait (j : Fin 12) (l : List (GSem nD τ sig × ℕ)) (hl : ∀ x ∈ l, x.1.1.2 = .tc ∧ lv (dCell c j) () < lv x.1 ())
    {q : DmaSem sig} (hq : q = dq j) {sp sp' : Space} {sh sh' : Shape} {e : EltTy} {srcM : Memref sig .tc sp sh e} {dstM : Memref sig .tc sp' sh' e}
    (hN : dstM.view.dmaCredit = N) {hs : srcM.view.WordExact} {hd : dstM.view.WordExact}
    {α : Type} {Q : α → sProp 𝕄} {k : PUnit → Prog (TpuEff nD τ sig (Elt F) Λ₀ .tc) α} :
    iprop(facts m K ∗ due c l ∗ cred (tallyAt (dCell c j) () N) ∗ atPos ER (dCell c j) 0 ∅ 0)
      ⊢ iprop(((due c l ∗ semVal (dCell c j) 0 ∗ dPay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcM dstM hs hd) k) Q) := by
  subst hq
  unfold due
  iintro ⟨#HF, ⟨%W, HO⟩, Hc, Hat⟩ Hk
  iapply (Rounds.wp_wait_rest_token 𝒱₀ ER (rd m) (c : Thread nD τ) none (κ := K (c, j.succ))
      (wpE_waitDma2_eq 𝒱₀ (c : Thread nD τ) none Set.univ) (Set.mem_univ _) () (O := owe l) (W := W) (R := 0) (m := 0) (T := ∅)
      (by rw [Nat.zero_add, expect_dma]; exact hN)) $$ [Hc HO Hat]
  · isplitr; · iapply (inv_dma m K c j); iexact HF
    isplitl [Hc]; · rw [hN]; iexact Hc
    isplitl [HO]; · iexact HO
    isplitr; · iapply (mayWait_list c (.dma (dq j)) l hl); iapply (facts_lev m K); iexact HF
    iexact Hat
  iintro ⟨HO, Hat, -, Hpay⟩
  ihave Hp := (Entails.of_eq (rest_dma m c j)) $$ Hpay
  imod (Rounds.cell_close ER (rd m) (Set.mem_univ (K (c, j.succ))) (fun h => h) (R := 0 + 1) (duties_later m (dCell c j))) $$ [Hat] with Hz
  · isplitr; · iapply (inv_dma m K c j); iexact HF
    iexact Hat
  iapply Hk
  isplitl [HO]; · iexists _; iexact HO
  isplitl [Hz]; · iexact Hz
  iexact Hp

/-- A copy of the block `V` from a memref held at share `q` into slot `s` of landing buffer `M` of device `n`: the rule both phases share. -/
theorem step_copy (n : Dev nD) (jS jR : Fin 12) (l : List (GSem nD τ sig × ℕ)) {q : PosShare TreeShare} {V : Vec F S128x512 .bf16}
    {srcM dstM : Memref sig .tc .vmem S128x512 .bf16} (hN : dstM.view.dmaCredit = N)
    (hpS : (owns (c : Thread nD τ) srcM q V : sProp 𝕄) ⊢ dPay m c jS)
    (hpR : (owns (n : Thread nD τ) dstM fullShare V : sProp 𝕄) ⊢ dPay m n jR)
    {hsc : (dstM : Memref sig (Dev.tc n : Thread nD τ).2.kind .vmem S128x512 .bf16).view.ref.isScScratch = false}
    {hsrc : srcM.view.WordExact} {hdst : dstM.view.WordExact}
    {hsem : DmaTarget.Typed .vmem (.dma (dq jR)) (.remote (Dev.tc n : Thread nD τ) dstM (.dma (dq jS)) hsc)}
    {α : Type} {Q : α → sProp 𝕄} {k : PUnit → Prog (TpuEff nD τ sig (Elt F) Λ₀ .tc) α} :
    iprop(facts m K ∗ due c ((dCell n jR, N) :: l) ∗ owns (c : Thread nD τ) srcM q V ∗ anyAt (F := F) n dstM
        ∗ dutyTok ER (dCell c jS) 0 0 ∗ dutyTok ER (dCell n jR) 0 0)
      ⊢ iprop(((due c l ∗ cred (tallyAt (dCell c jS) () N))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc n : Thread nD τ) dstM (.dma (dq jS)) hsc) (.dma (dq jR)) hsrc hdst hsem) k) Q) := by
  have hS : ∀ f, srcM.view.read (Elt F) f = V →
      ((srcM.view.loc (c : Thread nD τ) ↦[srcM.view.set]{q} f : sProp 𝕄) ⊢ dPay m c jS) := fun f hf =>
    ((owns_intro (c : Thread nD τ) srcM q f).trans (Entails.of_eq (by rw [hf]))).trans hpS
  have hR : ∀ fd f, srcM.view.read (Elt F) f = V →
      ((dstM.view.loc (n : Thread nD τ) ↦[dstM.view.set]{fullShare} (dstM.view.write (Elt F) fd (srcM.view.read (Elt F) f) Finset.univ) : sProp 𝕄)
        ⊢ dPay m n jR) := fun fd f hf =>
    ((owns_intro (n : Thread nD τ) dstM fullShare _).trans (Entails.of_eq (by rw [View.read_write_univ, hf]))).trans hpR
  unfold due
  iintro ⟨#HF, ⟨%W, HO⟩, Hs, Hd, HtS, HtR⟩ Hk
  unfold owns anyAt
  icases Hs with ⟨%f, %hf, Hs⟩
  icases Hd with ⟨%fd, Hd⟩
  iapply (Rounds.wp_send_pointsTo 𝒱₀ ER (rd m) (c : Thread nD τ) none (κ₁ := K (c, jS.succ)) (κ₂ := K (n, jR.succ))
    (r₁ := 0) (r₂ := 0) (d₁ := 0) (d₂ := 0) (fd := fd)
    (by rw [duties_dma]; exact Finset.mem_singleton_self _) (by rw [duties_dma]; exact Finset.mem_singleton_self _)
    () () N (show dstM.view.amount (.dma (dq jR)) = N from hN) (amount_dma m c jS 0) (amount_dma m n jR 0) (owe l) rfl (W := W)
    (by rw [payload_dma]; exact hS f hf) (by rw [payload_dma]; exact hR fd f hf)) $$ [HO Hs Hd HtS HtR]
  · isplitr; · iapply (inv_dma m K c jS); iexact HF
    isplitr; · iapply (inv_dma m K n jR); iexact HF
    isplitl [Hs]; · iexact Hs
    isplitl [Hd]; · iexact Hd
    isplitl [HO]; · iexact HO
    isplitl [HtS]; · iexact HtS
    isplitr; · iapply (reached_dma m K c jS); iexact HF
    isplitl [HtR]; · iexact HtR
    iapply (reached_dma m K n jR); iexact HF
  iintro ⟨Hc, HO⟩
  iapply Hk
  isplitl [HO]; · iexists W; iexact HO
  iexact Hc

/-- The copy of phase 0 to slot `s`. -/
theorem step_copy0 (s : Fin 3) (n : Dev nD) (hn : n = dst s c) (l : List (GSem nD τ sig × ℕ))
    {qS qR : DmaSem sig} (hqS : qS = dq (snd0 s)) (hqR : qR = dq (rcv0 s))
    {hsc : (slot rsM s : Memref sig (Dev.tc n : Thread nD τ).2.kind .vmem S128x512 .bf16).view.ref.isScScratch = false}
    {hsrc : (slot sendM s).view.WordExact} {hdst : (slot rsM s).view.WordExact}
    {hsem : DmaTarget.Typed .vmem (.dma qR) (.remote (Dev.tc n : Thread nD τ) (slot rsM s) (.dma qS) hsc)}
    {α : Type} {Q : α → sProp 𝕄} {k : PUnit → Prog (TpuEff nD τ sig (Elt F) Λ₀ .tc) α} :
    iprop(facts m K ∗ due c ((dCell (dst s c) (rcv0 s), N) :: l) ∗ owns (c : Thread nD τ) (slot sendM s) fullShare (sent m c (2 - s))
        ∗ anyAt (F := F) (dst s c) (slot rsM s) ∗ dutyTok ER (dCell c (snd0 s)) 0 0 ∗ dutyTok ER (dCell (dst s c) (rcv0 s)) 0 0)
      ⊢ iprop(((due c l ∗ cred (tallyAt (dCell c (snd0 s)) () N))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot sendM s) (.remote (Dev.tc n : Thread nD τ) (slot rsM s) (.dma qS) hsc) (.dma qR) hsrc hdst hsem) k) Q) := by
  subst hn hqS hqR
  exact step_copy m K c (dst s c) (snd0 s) (rcv0 s) l (slot_credit rsM (by simp) s)
    (by rw [dPay_snd0]; exact any_of_owns sendM s c _) (by rw [dPay_rcv0]; unfold got0 arr; rw [src_dst])

/-- The copy of phase 1 to slot `s`. -/
theorem step_copy1 (s : Fin 3) (n : Dev nD) (hn : n = dst s c) (l : List (GSem nD τ sig × ℕ))
    {qS qR : DmaSem sig} (hqS : qS = dq (snd1 s)) (hqR : qR = dq (rcv1 s))
    {hsc : (slot agM s : Memref sig (Dev.tc n : Thread nD τ).2.kind .vmem S128x512 .bf16).view.ref.isScScratch = false}
    {hsrc : (rM : Memref sig .tc .vmem S128x512 .bf16).view.WordExact} {hdst : (slot agM s).view.WordExact}
    {hsem : DmaTarget.Typed .vmem (.dma qR) (.remote (Dev.tc n : Thread nD τ) (slot agM s) (.dma qS) hsc)}
    {α : Type} {Q : α → sProp 𝕄} {k : PUnit → Prog (TpuEff nD τ sig (Elt F) Λ₀ .tc) α} :
    iprop(facts m K ∗ due c ((dCell (dst s c) (rcv1 s), N) :: l) ∗ redPart m c s
        ∗ anyAt (F := F) (dst s c) (slot agM s) ∗ dutyTok ER (dCell c (snd1 s)) 0 0 ∗ dutyTok ER (dCell (dst s c) (rcv1 s)) 0 0)
      ⊢ iprop(((due c l ∗ cred (tallyAt (dCell c (snd1 s)) () N))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma rM (.remote (Dev.tc n : Thread nD τ) (slot agM s) (.dma qS) hsc) (.dma qR) hsrc hdst hsem) k) Q) := by
  subst hn hqS hqR
  exact step_copy m K c (dst s c) (snd1 s) (rcv1 s) l (slot_credit agM (by simp) s)
    (by rw [dPay_snd1]; exact BI.Entails.refl _) (by rw [dPay_rcv1]; unfold got1 arr2; rw [src_dst])

end Steps

/-! ## The reduced block in thirds -/

/-- A share of the reduced block's buffer, by its elements. -/
theorem red_owns (c : Dev nD) (q : PosShare TreeShare) (X : Vec F S128x512 .bf16) :
    (owns (c : Thread nD τ) rM q X : sProp 𝕄) = (((c : Thread nD τ).loc cc0_scratch6) ↦{q} X) := owns_whole (c : Thread nD τ) cc0_scratch6 q X

/-- A buffer held whole is held in three thirds. -/
theorem thirds (ℓ : Loc nD τ sig) (X : Buf (Elt F) ℓ) : (ℓ ↦{fullShare} X : sProp 𝕄)
    ⊣⊢ iprop((ℓ ↦{Ring.shares3 fullShare 0} X) ∗ (ℓ ↦{Ring.shares3 fullShare 1} X) ∗ (ℓ ↦{Ring.shares3 fullShare 2} X)) := Ring.pointsTo_thirds fullShare X

/-- The buffer of the reduced block, holding it, is three thirds, each lent to one copy. -/
theorem red_split (c : Dev nD) : (owns (c : Thread nD τ) rM fullShare (redN m c) : sProp 𝕄)
    ⊢ iprop(redPart m c 0 ∗ redPart m c 1 ∗ redPart m c 2) := by
  unfold redPart
  generalize redN m c = X
  simp only [red_owns]
  exact (thirds ((c : Thread nD τ).loc cc0_scratch6) X).1
/-- The three thirds of the reduced block's buffer are the buffer. -/
theorem red_join (c : Dev nD) : iprop(redPart m c 0 ∗ redPart m c 1 ∗ redPart m c 2)
    ⊢ (owns (c : Thread nD τ) rM fullShare (redN m c) : sProp 𝕄) := by
  unfold redPart
  generalize redN m c = X
  simp only [red_owns]
  exact (thirds ((c : Thread nD τ).loc cc0_scratch6) X).2

end Cert.KernelIdeal.MoE

end
-- ==== Proof.Body1.lean ====
/-
The first stretch of the kernel: the barrier, and the weights and probabilities prepared.
-/
module

public import proofs.«01_k».proof.Proof.Steps

@[expose] public section

noncomputable section

namespace Cert.KernelIdeal.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

/-- A buffer of device `c` held whole with contents `X`. -/
abbrev holds (b : Ref sig .tc) (X : b.ty.Contents (Elt F)) : sProp 𝕄 := ((c : Thread nD τ).loc b) ↦{fullShare} X

/-- The narrowed expert matrices as a buffer that held `f` before. -/
def ebAfter0 (f : (cc0_scratch1 : Ref sig .tc).ty.Contents (Elt F)) : (cc0_scratch1 : Ref sig .tc).ty.Contents (Elt F) :=
  (ebM.access eRect0 : View sig .tc _ _ _).write (Elt F) f (e0 m c) Finset.univ
/-- With the second matrix stored too. -/
def ebAfter1 (f : (cc0_scratch1 : Ref sig .tc).ty.Contents (Elt F)) : (cc0_scratch1 : Ref sig .tc).ty.Contents (Elt F) :=
  (ebM.access eRect1 : View sig .tc _ _ _).write (Elt F) (ebAfter0 m c f) (e1 m c) Finset.univ

/-- The first narrowed matrix is read back; -/
theorem read_e0 (f) : ebM.view.readAt (Elt F) eRect0.toLoadRect (ebAfter1 m c f) = e0 m c := eb_read0 f (e0 m c) (e1 m c)
/-- and the second. -/
theorem read_e1 (f) : ebM.view.readAt (Elt F) eRect1.toLoadRect (ebAfter1 m c f) = e1 m c := eb_read1 _ (e1 m c)

/-- The first device signalled is the one that writes slot 0; -/
theorem dev1_src : (⟨k0_dev1 c, k0_dev1_lt c⟩ : Dev nD) = src 0 c := Fin.ext (k0_dev1_eq c)
/-- the second writes slot 1; -/
theorem dev2_src : (⟨k0_dev2 c, k0_dev2_lt c⟩ : Dev nD) = src 1 c := Fin.ext (k0_dev2_eq c)
/-- the third writes slot 2. -/
theorem dev3_src : (⟨k0_dev3 c, k0_dev3_lt c⟩ : Dev nD) = src 2 c := Fin.ext (k0_dev3_eq c)

/-- Part 1 starts from: everything owed, the three signals' duties, the landing slots to hand over, the barrier cell's position and credit. -/
def pre1 (f : (cc0_scratch1 : Ref sig .tc).ty.Contents (Elt F)) : sProp 𝕄 :=
  iprop(facts m K ∗ due c (bill c)
    ∗ dutyTok ER (barCell (src 0 c)) 0 0 ∗ dutyTok ER (barCell (src 1 c)) 0 1 ∗ dutyTok ER (barCell (src 2 c)) 0 2
    ∗ (anyAt (F := F) c (slot rsM 0) ∗ anyAt (F := F) c (slot rsM 1) ∗ anyAt (F := F) c (slot rsM 2))
    ∗ (anyAt (F := F) c (slot agM 0) ∗ anyAt (F := F) c (slot agM 1) ∗ anyAt (F := F) c (slot agM 2))
    ∗ cred (tallyAt (barCell c) () 3) ∗ atPos ER (barCell c) 0 ∅ 0
    ∗ holds c cc0_stg0_0 (xS m c) ∗ holds c cc0_stg3_0 (ewS m c) ∗ holds c cc0_scratch1 f)
/-- It ends with the peers' slots in hand and the first matrix narrowed. -/
def post1 (f : (cc0_scratch1 : Ref sig .tc).ty.Contents (Elt F)) : sProp 𝕄 :=
  iprop(due c (bill0 c) ∗ semVal (barCell c) 0 ∗ barPay (F := F) c 0 ∗ barPay (F := F) c 1 ∗ barPay (F := F) c 2
    ∗ holds c cc0_stg0_0 (xS m c) ∗ holds c cc0_stg3_0 (ewS m c) ∗ holds c cc0_scratch1 (ebAfter0 m c f))

/-- Part 1 of the body: the three signals, the barrier wait, and the first matrix narrowed. -/
theorem part1 (f : (cc0_scratch1 : Ref sig .tc).ty.Contents (Elt F))
    (Kt : (Σ' (d0 : Dev nD) (v2 : BitVec 32), FVec F S512x256 .f32) → sProp 𝕄) :
    iprop(pre1 m K c f ∗ (post1 m c f -∗ Kt ⟨c, word c, xV m c⟩))
      ⊢ wp frame (wpE (defs₀ (F := F)) 𝒱₀ (c : Thread nD τ) none) Set.univ
          (k0_part1 xM (Memref.isWhole_whole _) rwM (Memref.isWhole_whole _) ixM (Memref.isWhole_whole _) ewM (Memref.isWhole_whole _)
            swM (Memref.isWhole_whole _) outM (Memref.isWhole_whole _) pM (Memref.isWhole_whole _) ebM (Memref.isWhole_whole _)
            sbM (Memref.isWhole_whole _) sendM (Memref.isWhole_whole _) rsM (Memref.isWhole_whole _) agM (Memref.isWhole_whole _)
            rM (Memref.isWhole_whole _) cc0_scratch7 cc0_scratch8) Kt := by
  rw [k0_part1_eq_skeleton]; unfold k0_part1_skel
  simp only [semSignalWord, semWaitWord, Prog.lift, Prog.bind_op, Prog.bind_ret, Prog.pure_eq_ret, wp_deviceId]
  unfold pre1
  iintro ⟨⟨#HF, Ho, Ht0, Ht1, Ht2, ⟨Hr0, Hr1, Hr2⟩, ⟨Ha0, Ha1, Ha2⟩, Hc, Hat, Hx, Hew, Heb⟩, Hk⟩
  unfold bill
  iapply (step_signal m K c 0 _ (dev1_src c) _) $$ [Ho Ht0 Hr0 Ha0]
  · isplitr; · iexact HF
    isplitl [Ho]; · iexact Ho
    isplitl [Ht0]; · iexact Ht0
    isplitl [Hr0] <;> iassumption
  iintro Ho
  iapply (step_signal m K c 1 _ (dev2_src c) _) $$ [Ho Ht1 Hr1 Ha1]
  · isplitr; · iexact HF
    isplitl [Ho]; · iexact Ho
    isplitl [Ht1]; · iexact Ht1
    isplitl [Hr1] <;> iassumption
  iintro Ho
  iapply (step_signal m K c 2 _ (dev3_src c) _) $$ [Ho Ht2 Hr2 Ha2]
  · isplitr; · iexact HF
    isplitl [Ho]; · iexact Ho
    isplitl [Ht2]; · iexact Ht2
    isplitl [Hr2] <;> iassumption
  iintro Ho
  iapply (step_barrier m K c _ (bill0_lv c)) $$ [Ho Hc Hat]
  · isplitr; · iexact HF
    isplitl [Ho]; · iexact Ho
    isplitl [Hc] <;> iassumption
  iintro ⟨Ho, Hz, Hp0, Hp1, Hp2⟩
  iapply (wp_load 𝒱₀ (c : Thread nD τ) none Set.univ (m := xM) (Finset.subset_univ _)) $$ Hx; iintro Hx
  iapply (wp_load 𝒱₀ (c : Thread nD τ) none Set.univ (m := ewM) (Finset.subset_univ _)) $$ Hew; iintro Hew
  iapply (wp_load 𝒱₀ (c : Thread nD τ) none Set.univ (m := ebM) (Finset.subset_univ _)) $$ Heb; iintro Heb
  iapply (wp_store 𝒱₀ (c : Thread nD τ) none Set.univ (m := ebM) (r := eRect0) (Mk := Finset.univ) (Finset.subset_univ _)) $$ Heb; iintro Heb
  rw [wp_ret]; imodintro
  rw [show xM.view.readAt (Elt F) _ (xS m c) = xS m c from Memref.readAt_unit_zero (Elt F) cc0_stg0_0 hz2 _ _]
  iapply Hk
  unfold post1
  isplitl [Ho]; · iexact Ho
  isplitl [Hz]; · iexact Hz
  isplitl [Hp0]; · iexact Hp0
  isplitl [Hp1]; · iexact Hp1
  isplitl [Hp2]; · iexact Hp2
  isplitl [Hx]; · iexact Hx
  isplitl [Hew]; · iexact Hew
  iexact Heb

end Cert.KernelIdeal.MoE

end
-- ==== Proof.Body2.lean ====
/-
The weights narrowed, the probabilities, and the first two blocks computed and sent.
-/
module

public import proofs.«01_k».proof.Proof.Body1

@[expose] public section

noncomputable section

namespace Cert.KernelIdeal.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

/-- The rows of device `c`'s `x`, expert indices and probabilities in the block `i + 1` places after its own, and in its own. -/
abbrev xB (i : Fin 3) : Vec F S128x256 .f32 := xM.view.readAt (Elt F) (xRect c i).toLoadRect (xS m c)
/-- The expert numbers of the same rows. -/
abbrev ixB (i : Fin 3) : Vec F S128x1 .i32 := ixM.view.readAt (Elt F) (colRect c i).toLoadRect (ixS m c)
/-- The probabilities of the same rows. -/
abbrev pB (i : Fin 3) : Vec F S128x1 .f32 := pM.view.readAt (Elt F) (colRect c i).toLoadRect (psel m c)
/-- The device's own rows of `x`; -/
abbrev xO : Vec F S128x256 .f32 := xM.view.readAt (Elt F) (xOwn c).toLoadRect (xS m c)
/-- their expert numbers; -/
abbrev ixO : Vec F S128x1 .i32 := ixM.view.readAt (Elt F) (colOwn c).toLoadRect (ixS m c)
/-- their probabilities. -/
abbrev pO : Vec F S128x1 .f32 := pM.view.readAt (Elt F) (colOwn c).toLoadRect (psel m c)

/-- What is sent, in terms of these rows. -/
theorem sent_eq (i : Fin 3) : sent m c i = k0_pay6 (word c) (xB m c i) (ixB m c i) (pB m c i) (e0 m c) (e1 m c) := rfl

/-- The first copy of the first exchange goes to the device whose slot 1 it fills; -/
theorem dev4_dst : (⟨k0_dev4 c, k0_dev4_lt c⟩ : Dev nD) = dst 1 c := Fin.ext (k0_dev4_eq c)
/-- the second to the one whose slot 2 it fills; -/
theorem dev5_dst : (⟨k0_dev5 c, k0_dev5_lt c⟩ : Dev nD) = dst 2 c := Fin.ext (k0_dev5_eq c)
/-- the third to the one whose slot 0 it fills. -/
theorem dev6_dst : (⟨k0_dev6 c, k0_dev6_lt c⟩ : Dev nD) = dst 0 c := Fin.ext (k0_dev6_eq c)
/-- The second exchange's copies likewise: slot 1, -/
theorem dev7_dst : (⟨k0_dev7 c, k0_dev7_lt c⟩ : Dev nD) = dst 1 c := Fin.ext (k0_dev7_eq c)
/-- slot 2, -/
theorem dev8_dst : (⟨k0_dev8 c, k0_dev8_lt c⟩ : Dev nD) = dst 2 c := Fin.ext (k0_dev8_eq c)
/-- and slot 0. -/
theorem dev9_dst : (⟨k0_dev9 c, k0_dev9_lt c⟩ : Dev nD) = dst 0 c := Fin.ext (k0_dev9_eq c)

/-- What is still owed after one or two copies of phase 0. -/
def bill0a : List (GSem nD τ sig × ℕ) := (dCell (dst 2 c) (rcv0 2), N) :: (dCell (dst 0 c) (rcv0 0), N) :: bill1 c
/-- After two of them. -/
def bill0b : List (GSem nD τ sig × ℕ) := (dCell (dst 0 c) (rcv0 0), N) :: bill1 c

/-- Part 2 starts from the first matrix narrowed. -/
def pre2 (f : (cc0_scratch1 : Ref sig .tc).ty.Contents (Elt F)) (g : (cc0_scratch2 : Ref sig .tc).ty.Contents (Elt F)) (h : (cc0_scratch0 : Ref sig .tc).ty.Contents (Elt F)): sProp 𝕄 :=
  iprop(holds c cc0_stg3_0 (ewS m c)
    ∗ holds c cc0_scratch1 (ebAfter0 m c f)
    ∗ holds c cc0_stg4_0 (swS m c)
    ∗ holds c cc0_scratch2 (g)
    ∗ holds c cc0_stg1_0 (rwS m c)
    ∗ holds c cc0_stg2_0 (ixS m c)
    ∗ holds c cc0_stg0_0 (xS m c)
    ∗ holds c cc0_scratch0 (h))
/-- It ends with both matrices, the shared matrix and the probabilities ready. -/
def post2 (f : (cc0_scratch1 : Ref sig .tc).ty.Contents (Elt F)) (g : (cc0_scratch2 : Ref sig .tc).ty.Contents (Elt F)) (h : (cc0_scratch0 : Ref sig .tc).ty.Contents (Elt F)): sProp 𝕄 :=
  iprop(holds c cc0_stg3_0 (ewS m c)
    ∗ holds c cc0_scratch1 (ebAfter1 m c f)
    ∗ holds c cc0_stg4_0 (swS m c)
    ∗ holds c cc0_scratch2 (MoE.sw m c)
    ∗ holds c cc0_stg1_0 (rwS m c)
    ∗ holds c cc0_stg2_0 (ixS m c)
    ∗ holds c cc0_stg0_0 (xS m c)
    ∗ holds c cc0_scratch0 (psel m c))

/-- Part 2 of the body: the other two matrices narrowed and the probabilities stored. -/
theorem part2 (f : (cc0_scratch1 : Ref sig .tc).ty.Contents (Elt F)) (g : (cc0_scratch2 : Ref sig .tc).ty.Contents (Elt F)) (h : (cc0_scratch0 : Ref sig .tc).ty.Contents (Elt F))
    (Kt : (Σ' (v60 : BitVec 32), BitVec 32) → sProp 𝕄) :
    iprop(pre2 (F := F) m c f g h ∗ (post2 (F := F) m c f g h -∗ Kt ⟨Scalar.addi (word c) 2#32, 4#32⟩))
      ⊢ wp frame (wpE (defs₀ (F := F)) 𝒱₀ (c : Thread nD τ) none) Set.univ
          (k0_part2 xM (Memref.isWhole_whole _) rwM (Memref.isWhole_whole _) ixM (Memref.isWhole_whole _) ewM (Memref.isWhole_whole _)
            swM (Memref.isWhole_whole _) outM (Memref.isWhole_whole _) pM (Memref.isWhole_whole _) ebM (Memref.isWhole_whole _)
            sbM (Memref.isWhole_whole _) sendM (Memref.isWhole_whole _) rsM (Memref.isWhole_whole _) agM (Memref.isWhole_whole _)
            rM (Memref.isWhole_whole _) cc0_scratch7 cc0_scratch8 (word c) (xV m c)) Kt := by
  rw [k0_part2_eq_skeleton]; unfold k0_part2_skel
  simp only [Prog.lift, Prog.bind_op, Prog.bind_ret, Prog.pure_eq_ret]
  unfold pre2
  iintro ⟨⟨Hew, Heb, Hsw, Hsb, Hrw, Hix, Hx, Hp⟩, Hk⟩
  iapply (wp_load 𝒱₀ (c : Thread nD τ) none Set.univ (m := ewM) (Finset.subset_univ _)) $$ Hew; iintro Hew
  iapply (wp_load 𝒱₀ (c : Thread nD τ) none Set.univ (m := ebM) (Finset.subset_univ _)) $$ Heb; iintro Heb
  iapply (wp_store 𝒱₀ (c : Thread nD τ) none Set.univ (m := ebM) (r := eRect1) (Mk := Finset.univ) (Finset.subset_univ _)) $$ Heb; iintro Heb
  iapply (wp_load 𝒱₀ (c : Thread nD τ) none Set.univ (m := swM) (Finset.subset_univ _)) $$ Hsw; iintro Hsw
  iapply (wp_load 𝒱₀ (c : Thread nD τ) none Set.univ (m := sbM) (Finset.subset_univ _)) $$ Hsb; iintro Hsb
  iapply (wp_store 𝒱₀ (c : Thread nD τ) none Set.univ (m := sbM) (r := (Rect.unit (s := S256x512) ![0, 0] S256x512.size inb_S256x512_S256x512_0_0)) (Mk := Finset.univ) (Finset.subset_univ _)) $$ Hsb; iintro Hsb
  iapply (wp_load 𝒱₀ (c : Thread nD τ) none Set.univ (m := rwM) (Finset.subset_univ _)) $$ Hrw; iintro Hrw
  iapply (wp_load 𝒱₀ (c : Thread nD τ) none Set.univ (m := ixM) (Finset.subset_univ _)) $$ Hix; iintro Hix
  iapply (wp_load 𝒱₀ (c : Thread nD τ) none Set.univ (m := pM) (Finset.subset_univ _)) $$ Hp; iintro Hp
  iapply (wp_store 𝒱₀ (c : Thread nD τ) none Set.univ (m := pM) (r := (Rect.unit (s := S512x1) ![0, 0] S512x1.size inb_S512x1_S512x1_0_0)) (Mk := Finset.univ) (Finset.subset_univ _)) $$ Hp; iintro Hp
  rw [show swM.view.readAt (Elt F) _ (swS m c) = swS m c from Memref.readAt_unit_zero (Elt F) cc0_stg4_0 hz2 _ _]
  rw [show rwM.view.readAt (Elt F) _ (rwS m c) = rwS m c from Memref.readAt_unit_zero (Elt F) cc0_stg1_0 hz2 _ _]
  rw [show ixM.view.readAt (Elt F) _ (ixS m c) = ixS m c from Memref.readAt_unit_zero (Elt F) cc0_stg2_0 hz2 _ _]
  rw [show (sbM.access (Rect.unit (s := S256x512) ![0, 0] S256x512.size inb_S256x512_S256x512_0_0) : View sig .tc _ _ _).write (Elt F) g (k0_pay4 (swS m c)) Finset.univ = MoE.sw m c from Memref.write_access_unit_zero_univ (Elt F) cc0_scratch2 hz2 _ _ _,
    show (pM.access (Rect.unit (s := S512x1) ![0, 0] S512x1.size inb_S512x1_S512x1_0_0) : View sig .tc _ _ _).write (Elt F) h (k0_pay5 (xV m c) (rwS m c) (ixS m c)) Finset.univ = psel m c from Memref.write_access_unit_zero_univ (Elt F) cc0_scratch0 hz2 _ _ _]
  rw [wp_ret]; imodintro
  ihave H := Hk $$ [Hew Heb Hsw Hsb Hrw Hix Hx Hp]
  · unfold post2
    isplitl [Hew]; · iexact Hew
    isplitl [Heb]; · iexact Heb
    isplitl [Hsw]; · iexact Hsw
    isplitl [Hsb]; · iexact Hsb
    isplitl [Hrw]; · iexact Hrw
    isplitl [Hix]; · iexact Hix
    isplitl [Hx]; · iexact Hx
    iexact Hp
  iexact H

/-- Part 3 reads the rows of the block two places on. -/
def pre3 (f : (cc0_scratch1 : Ref sig .tc).ty.Contents (Elt F)): sProp 𝕄 :=
  iprop(holds c cc0_stg0_0 (xS m c)
    ∗ holds c cc0_stg2_0 (ixS m c)
    ∗ holds c cc0_scratch0 (psel m c)
    ∗ holds c cc0_scratch1 (ebAfter1 m c f))
/-- It changes nothing and returns that block's part. -/
def post3 (f : (cc0_scratch1 : Ref sig .tc).ty.Contents (Elt F)): sProp 𝕄 :=
  iprop(holds c cc0_stg0_0 (xS m c)
    ∗ holds c cc0_stg2_0 (ixS m c)
    ∗ holds c cc0_scratch0 (psel m c)
    ∗ holds c cc0_scratch1 (ebAfter1 m c f))

/-- Part 3: the rows of the first block to send, read, and its part computed. -/
theorem part3 (f : (cc0_scratch1 : Ref sig .tc).ty.Contents (Elt F))
    (Kt : (Σ' (v61 : BitVec 32), FVec F S128x512 .bf16) → sProp 𝕄) :
    iprop(pre3 (F := F) m c f ∗ (post3 (F := F) m c f -∗ Kt ⟨Scalar.remsi (Scalar.addi (word c) 2#32) 4#32, sent m c 1⟩))
      ⊢ wp frame (wpE (defs₀ (F := F)) 𝒱₀ (c : Thread nD τ) none) Set.univ
          (k0_part3 xM (Memref.isWhole_whole _) rwM (Memref.isWhole_whole _) ixM (Memref.isWhole_whole _) ewM (Memref.isWhole_whole _)
            swM (Memref.isWhole_whole _) outM (Memref.isWhole_whole _) pM (Memref.isWhole_whole _) ebM (Memref.isWhole_whole _)
            sbM (Memref.isWhole_whole _) sendM (Memref.isWhole_whole _) rsM (Memref.isWhole_whole _) agM (Memref.isWhole_whole _)
            rM (Memref.isWhole_whole _) cc0_scratch7 cc0_scratch8 c (word c) (Scalar.addi (word c) 2#32) 4#32) Kt := by
  rw [k0_part3_eq_skeleton]; unfold k0_part3_skel
  simp only [Prog.lift, Prog.bind_op, Prog.bind_ret, Prog.pure_eq_ret]
  unfold pre3
  iintro ⟨⟨Hx, Hix, Hp, Heb⟩, Hk⟩
  iapply (wp_load 𝒱₀ (c : Thread nD τ) none Set.univ (m := xM) (Finset.subset_univ _)) $$ Hx; iintro Hx
  iapply (wp_load 𝒱₀ (c : Thread nD τ) none Set.univ (m := ixM) (Finset.subset_univ _)) $$ Hix; iintro Hix
  iapply (wp_load 𝒱₀ (c : Thread nD τ) none Set.univ (m := pM) (Finset.subset_univ _)) $$ Hp; iintro Hp
  iapply (wp_load 𝒱₀ (c : Thread nD τ) none Set.univ (m := ebM) (Finset.subset_univ _)) $$ Heb; iintro Heb
  iapply (wp_load 𝒱₀ (c : Thread nD τ) none Set.univ (m := ebM) (Finset.subset_univ _)) $$ Heb; iintro Heb
  rw [read_e0, read_e1, sent_eq]
  rw [wp_ret]; imodintro
  ihave H := Hk $$ [Hx Hix Hp Heb]
  · unfold post3
    isplitl [Hx]; · iexact Hx
    isplitl [Hix]; · iexact Hix
    isplitl [Hp]; · iexact Hp
    iexact Heb
  iexact H

/-- Part 4 starts from the send buffer's slot 1 and its peer's landing slot. -/
def pre4 : sProp 𝕄 :=
  iprop(facts m K
    ∗ due (F := F) c (bill0 c)
    ∗ anyAt (F := F) c (slot sendM 1)
    ∗ anyAt (F := F) (dst 1 c) (slot rsM 1)
    ∗ dutyTok ER (dCell c (snd0 1)) 0 0
    ∗ dutyTok ER (dCell (dst 1 c) (rcv0 1)) 0 0
    ∗ holds c cc0_stg0_0 (xS m c)
    ∗ holds c cc0_stg2_0 (ixS m c)
    ∗ holds c cc0_scratch0 (psel m c))
/-- It ends with the copy on its way and its credit in hand. -/
def post4 : sProp 𝕄 :=
  iprop(due (F := F) c (bill0a c)
    ∗ cred (tallyAt (dCell c (snd0 1)) () N)
    ∗ holds c cc0_stg0_0 (xS m c)
    ∗ holds c cc0_stg2_0 (ixS m c)
    ∗ holds c cc0_scratch0 (psel m c))

/-- Part 4: that block stored in slot 1 and its copy started. -/
theorem part4
    (Kt : (Σ' (v113 : BitVec 32) (v117 : FVec F S128x256 .f32) (v120 : IVec S128x1 32) (v122 : Vec F S128x1 .f32) (v123 : FVec F S128x512 .f32), FVec F S128x256 .bf16) → sProp 𝕄) :
    iprop(pre4 (F := F) m K c  ∗ (post4 (F := F) m c  -∗ Kt ⟨Scalar.remsi (Scalar.addi (word c) 1#32) 4#32, k0_pay8 (xB m c 0), k0_pay9 (F := F) (ixB m c 0), (pB m c 0), k0_pay10 (F := F), k0_pay11 (word c) (xB m c 0) (ixB m c 0) (pB m c 0)⟩))
      ⊢ wp frame (wpE (defs₀ (F := F)) 𝒱₀ (c : Thread nD τ) none) Set.univ
          (k0_part4 xM (Memref.isWhole_whole _) rwM (Memref.isWhole_whole _) ixM (Memref.isWhole_whole _) ewM (Memref.isWhole_whole _)
            swM (Memref.isWhole_whole _) outM (Memref.isWhole_whole _) pM (Memref.isWhole_whole _) ebM (Memref.isWhole_whole _)
            sbM (Memref.isWhole_whole _) sendM (Memref.isWhole_whole _) rsM (Memref.isWhole_whole _) agM (Memref.isWhole_whole _)
            rM (Memref.isWhole_whole _) cc0_scratch7 cc0_scratch8 c (word c) (Scalar.remsi (Scalar.addi (word c) 2#32) 4#32) (sent m c 1)) Kt := by
  rw [k0_part4_eq_skeleton]; unfold k0_part4_skel
  simp only [Prog.lift, Prog.bind_op, Prog.bind_ret, Prog.pure_eq_ret]
  unfold pre4
  iintro ⟨⟨#HF, Ho, Hs, Hd, HtS, HtR, Hx, Hix, Hp⟩, Hk⟩
  iapply (wp_load_slot_any sendM 1 c) $$ Hs; iintro %_ Hs
  iapply (wp_store_slot sendM 1 c (V := sent m c 1) rfl) $$ Hs; iintro Hs
  unfold bill0
  iapply (step_copy0 m K c 1 _ (dev4_dst c) _ rfl rfl) $$ [Ho Hs Hd HtS HtR]
  · isplitr; · iexact HF
    isplitl [Ho]; · iexact Ho
    isplitl [Hs]; · iexact Hs
    isplitl [Hd]; · iexact Hd
    isplitl [HtS]; · iexact HtS
    iexact HtR
  iintro ⟨Ho, Hc⟩
  iapply (wp_load 𝒱₀ (c : Thread nD τ) none Set.univ (m := xM) (Finset.subset_univ _)) $$ Hx; iintro Hx
  iapply (wp_load 𝒱₀ (c : Thread nD τ) none Set.univ (m := ixM) (Finset.subset_univ _)) $$ Hix; iintro Hix
  iapply (wp_load 𝒱₀ (c : Thread nD τ) none Set.univ (m := pM) (Finset.subset_univ _)) $$ Hp; iintro Hp
  rw [wp_ret]; imodintro
  ihave H := Hk $$ [Ho Hc Hx Hix Hp]
  · unfold post4
    isplitl [Ho]; · iexact Ho
    isplitl [Hc]; · iexact Hc
    isplitl [Hx]; · iexact Hx
    isplitl [Hix]; · iexact Hix
    iexact Hp
  iexact H

end Cert.KernelIdeal.MoE

end
-- ==== Proof.Body3.lean ====
/-
The other two blocks sent, and the device's own block begun.
-/
module

public import proofs.«01_k».proof.Proof.Body2

@[expose] public section

noncomputable section

namespace Cert.KernelIdeal.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

/-- Part 5 starts from the send buffer's slot 2 and its peer's landing slot. -/
def pre5 (f : (cc0_scratch1 : Ref sig .tc).ty.Contents (Elt F)): sProp 𝕄 :=
  iprop(facts m K
    ∗ due (F := F) c (bill0a c)
    ∗ anyAt (F := F) c (slot sendM 2)
    ∗ anyAt (F := F) (dst 2 c) (slot rsM 2)
    ∗ dutyTok ER (dCell c (snd0 2)) 0 0
    ∗ dutyTok ER (dCell (dst 2 c) (rcv0 2)) 0 0
    ∗ holds c cc0_scratch1 (ebAfter1 m c f))
/-- It ends with the copy on its way and its credit in hand. -/
def post5 (f : (cc0_scratch1 : Ref sig .tc).ty.Contents (Elt F)): sProp 𝕄 :=
  iprop(due (F := F) c (bill0b c)
    ∗ cred (tallyAt (dCell c (snd0 2)) () N)
    ∗ holds c cc0_scratch1 (ebAfter1 m c f))

/-- Part 5 of the body: the second block computed, stored in slot 2 and its copy started. -/
theorem part5 (f : (cc0_scratch1 : Ref sig .tc).ty.Contents (Elt F))
    (Kt : (Σ' (v164 : BitVec 32), BitVec 32) → sProp 𝕄) :
    iprop(pre5 (F := F) m K c f ∗ (post5 (F := F) m c f -∗ Kt ⟨Scalar.addi (word c) 3#32, 4#32⟩))
      ⊢ wp frame (wpE (defs₀ (F := F)) 𝒱₀ (c : Thread nD τ) none) Set.univ
          (k0_part5 xM (Memref.isWhole_whole _) rwM (Memref.isWhole_whole _) ixM (Memref.isWhole_whole _) ewM (Memref.isWhole_whole _)
            swM (Memref.isWhole_whole _) outM (Memref.isWhole_whole _) pM (Memref.isWhole_whole _) ebM (Memref.isWhole_whole _)
            sbM (Memref.isWhole_whole _) sendM (Memref.isWhole_whole _) rsM (Memref.isWhole_whole _) agM (Memref.isWhole_whole _)
            rM (Memref.isWhole_whole _) cc0_scratch7 cc0_scratch8 c (word c) (Scalar.remsi (Scalar.addi (word c) 1#32) 4#32) (k0_pay8 (xB m c 0)) (k0_pay9 (F := F) (ixB m c 0)) (pB m c 0) (k0_pay10 (F := F)) (k0_pay11 (word c) (xB m c 0) (ixB m c 0) (pB m c 0))) Kt := by
  rw [k0_part5_eq_skeleton]; unfold k0_part5_skel
  simp only [Prog.lift, Prog.bind_op, Prog.bind_ret, Prog.pure_eq_ret]
  unfold pre5
  iintro ⟨⟨#HF, Ho, Hs, Hd, HtS, HtR, Heb⟩, Hk⟩
  iapply (wp_load 𝒱₀ (c : Thread nD τ) none Set.univ (m := ebM) (Finset.subset_univ _)) $$ Heb; iintro Heb
  iapply (wp_load 𝒱₀ (c : Thread nD τ) none Set.univ (m := ebM) (Finset.subset_univ _)) $$ Heb; iintro Heb
  rw [read_e0, read_e1]
  iapply (wp_load_slot_any sendM 2 c) $$ Hs; iintro %_ Hs
  iapply (wp_store_slot sendM 2 c (V := sent m c 0) rfl) $$ Hs; iintro Hs
  unfold bill0a
  iapply (step_copy0 m K c 2 _ (dev5_dst c) _ rfl rfl) $$ [Ho Hs Hd HtS HtR]
  · isplitr; · iexact HF
    isplitl [Ho]; · iexact Ho
    isplitl [Hs]; · iexact Hs
    isplitl [Hd]; · iexact Hd
    isplitl [HtS]; · iexact HtS
    iexact HtR
  iintro ⟨Ho, Hc⟩
  rw [wp_ret]; imodintro
  ihave H := Hk $$ [Ho Hc Heb]
  · unfold post5
    isplitl [Ho]; · iexact Ho
    isplitl [Hc]; · iexact Hc
    iexact Heb
  iexact H

/-- Part 6 reads the rows of the block three places on. -/
def pre6 (f : (cc0_scratch1 : Ref sig .tc).ty.Contents (Elt F)): sProp 𝕄 :=
  iprop(holds c cc0_stg0_0 (xS m c)
    ∗ holds c cc0_stg2_0 (ixS m c)
    ∗ holds c cc0_scratch0 (psel m c)
    ∗ holds c cc0_scratch1 (ebAfter1 m c f))
/-- It changes nothing and returns that block's part. -/
def post6 (f : (cc0_scratch1 : Ref sig .tc).ty.Contents (Elt F)): sProp 𝕄 :=
  iprop(holds c cc0_stg0_0 (xS m c)
    ∗ holds c cc0_stg2_0 (ixS m c)
    ∗ holds c cc0_scratch0 (psel m c)
    ∗ holds c cc0_scratch1 (ebAfter1 m c f))

/-- Part 6: the third block's rows read and its part computed. -/
theorem part6 (f : (cc0_scratch1 : Ref sig .tc).ty.Contents (Elt F))
    (Kt : (Σ' (v165 : BitVec 32), FVec F S128x512 .bf16) → sProp 𝕄) :
    iprop(pre6 (F := F) m c f ∗ (post6 (F := F) m c f -∗ Kt ⟨Scalar.remsi (Scalar.addi (word c) 3#32) 4#32, sent m c 2⟩))
      ⊢ wp frame (wpE (defs₀ (F := F)) 𝒱₀ (c : Thread nD τ) none) Set.univ
          (k0_part6 xM (Memref.isWhole_whole _) rwM (Memref.isWhole_whole _) ixM (Memref.isWhole_whole _) ewM (Memref.isWhole_whole _)
            swM (Memref.isWhole_whole _) outM (Memref.isWhole_whole _) pM (Memref.isWhole_whole _) ebM (Memref.isWhole_whole _)
            sbM (Memref.isWhole_whole _) sendM (Memref.isWhole_whole _) rsM (Memref.isWhole_whole _) agM (Memref.isWhole_whole _)
            rM (Memref.isWhole_whole _) cc0_scratch7 cc0_scratch8 c (word c) (Scalar.addi (word c) 3#32) 4#32) Kt := by
  rw [k0_part6_eq_skeleton]; unfold k0_part6_skel
  simp only [Prog.lift, Prog.bind_op, Prog.bind_ret, Prog.pure_eq_ret]
  unfold pre6
  iintro ⟨⟨Hx, Hix, Hp, Heb⟩, Hk⟩
  iapply (wp_load 𝒱₀ (c : Thread nD τ) none Set.univ (m := xM) (Finset.subset_univ _)) $$ Hx; iintro Hx
  iapply (wp_load 𝒱₀ (c : Thread nD τ) none Set.univ (m := ixM) (Finset.subset_univ _)) $$ Hix; iintro Hix
  iapply (wp_load 𝒱₀ (c : Thread nD τ) none Set.univ (m := pM) (Finset.subset_univ _)) $$ Hp; iintro Hp
  iapply (wp_load 𝒱₀ (c : Thread nD τ) none Set.univ (m := ebM) (Finset.subset_univ _)) $$ Heb; iintro Heb
  iapply (wp_load 𝒱₀ (c : Thread nD τ) none Set.univ (m := ebM) (Finset.subset_univ _)) $$ Heb; iintro Heb
  rw [read_e0, read_e1, show sent m c 2 = k0_pay13 (word c) (xB m c 2) (ixB m c 2) (pB m c 2) (e0 m c) (e1 m c) from rfl]
  rw [wp_ret]; imodintro
  ihave H := Hk $$ [Hx Hix Hp Heb]
  · unfold post6
    isplitl [Hx]; · iexact Hx
    isplitl [Hix]; · iexact Hix
    isplitl [Hp]; · iexact Hp
    iexact Heb
  iexact H

/-- Part 7 starts from the send buffer's slot 0 and its peer's landing slot. -/
def pre7 (f : (cc0_scratch1 : Ref sig .tc).ty.Contents (Elt F)): sProp 𝕄 :=
  iprop(facts m K
    ∗ due (F := F) c (bill0b c)
    ∗ anyAt (F := F) c (slot sendM 0)
    ∗ anyAt (F := F) (dst 0 c) (slot rsM 0)
    ∗ dutyTok ER (dCell c (snd0 0)) 0 0
    ∗ dutyTok ER (dCell (dst 0 c) (rcv0 0)) 0 0
    ∗ holds c cc0_stg0_0 (xS m c)
    ∗ holds c cc0_stg2_0 (ixS m c)
    ∗ holds c cc0_scratch0 (psel m c)
    ∗ holds c cc0_scratch1 (ebAfter1 m c f))
/-- It ends with the copy on its way and its credit in hand. -/
def post7 (f : (cc0_scratch1 : Ref sig .tc).ty.Contents (Elt F)): sProp 𝕄 :=
  iprop(due (F := F) c (bill1 c)
    ∗ cred (tallyAt (dCell c (snd0 0)) () N)
    ∗ holds c cc0_stg0_0 (xS m c)
    ∗ holds c cc0_stg2_0 (ixS m c)
    ∗ holds c cc0_scratch0 (psel m c)
    ∗ holds c cc0_scratch1 (ebAfter1 m c f))

/-- Part 7: that block stored in slot 0, its copy started, and the device's own block begun. -/
theorem part7 (f : (cc0_scratch1 : Ref sig .tc).ty.Contents (Elt F))
    (Kt : (Σ' (v219 : FVec F S128x256 .f32) (v222 : IVec S128x1 32) (v224 : Vec F S128x1 .f32) (v225 : FVec F S128x512 .f32) (v234 : FVec F S128x256 .bf16) (v236 : FVec F S256x512 .bf16), FVec F S128x512 .f32) → sProp 𝕄) :
    iprop(pre7 (F := F) m K c f ∗ (post7 (F := F) m c f -∗ Kt ⟨k0_pay15 (xO m c), k0_pay16 (F := F) (ixO m c), (pO m c), k0_pay17 (F := F), k0_pay18 (word c) (xO m c) (ixO m c) (pO m c), k0_pay19 (e0 m c), constant S128x512 .f32 0x00000000#32⟩))
      ⊢ wp frame (wpE (defs₀ (F := F)) 𝒱₀ (c : Thread nD τ) none) Set.univ
          (k0_part7 xM (Memref.isWhole_whole _) rwM (Memref.isWhole_whole _) ixM (Memref.isWhole_whole _) ewM (Memref.isWhole_whole _)
            swM (Memref.isWhole_whole _) outM (Memref.isWhole_whole _) pM (Memref.isWhole_whole _) ebM (Memref.isWhole_whole _)
            sbM (Memref.isWhole_whole _) sendM (Memref.isWhole_whole _) rsM (Memref.isWhole_whole _) agM (Memref.isWhole_whole _)
            rM (Memref.isWhole_whole _) cc0_scratch7 cc0_scratch8 c (word c) (Scalar.remsi (Scalar.addi (word c) 3#32) 4#32) (sent m c 2)) Kt := by
  rw [k0_part7_eq_skeleton]; unfold k0_part7_skel
  simp only [Prog.lift, Prog.bind_op, Prog.bind_ret, Prog.pure_eq_ret]
  unfold pre7
  iintro ⟨⟨#HF, Ho, Hs, Hd, HtS, HtR, Hx, Hix, Hp, Heb⟩, Hk⟩
  iapply (wp_load_slot_any sendM 0 c) $$ Hs; iintro %_ Hs
  iapply (wp_store_slot sendM 0 c (V := sent m c 2) rfl) $$ Hs; iintro Hs
  unfold bill0b
  iapply (step_copy0 m K c 0 _ (dev6_dst c) _ rfl rfl) $$ [Ho Hs Hd HtS HtR]
  · isplitr; · iexact HF
    isplitl [Ho]; · iexact Ho
    isplitl [Hs]; · iexact Hs
    isplitl [Hd]; · iexact Hd
    isplitl [HtS]; · iexact HtS
    iexact HtR
  iintro ⟨Ho, Hc⟩
  iapply (wp_load 𝒱₀ (c : Thread nD τ) none Set.univ (m := xM) (Finset.subset_univ _)) $$ Hx; iintro Hx
  iapply (wp_load 𝒱₀ (c : Thread nD τ) none Set.univ (m := ixM) (Finset.subset_univ _)) $$ Hix; iintro Hix
  iapply (wp_load 𝒱₀ (c : Thread nD τ) none Set.univ (m := pM) (Finset.subset_univ _)) $$ Hp; iintro Hp
  iapply (wp_load 𝒱₀ (c : Thread nD τ) none Set.univ (m := ebM) (Finset.subset_univ _)) $$ Heb; iintro Heb
  rw [read_e0]
  rw [wp_ret]; imodintro
  ihave H := Hk $$ [Ho Hc Hx Hix Hp Heb]
  · unfold post7
    isplitl [Ho]; · iexact Ho
    isplitl [Hc]; · iexact Hc
    isplitl [Hx]; · iexact Hx
    isplitl [Hix]; · iexact Hix
    isplitl [Hp]; · iexact Hp
    iexact Heb
  iexact H

end Cert.KernelIdeal.MoE

end
-- ==== Proof.Body4.lean ====
/-
The device's own block reduced, and the reduced block sent to two peers.
-/
module

public import proofs.«01_k».proof.Proof.Body3

@[expose] public section

noncomputable section

namespace Cert.KernelIdeal.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

/-- Part 8 starts from the result array to be filled and the first arrival awaited. -/
def pre8 (f : (cc0_scratch1 : Ref sig .tc).ty.Contents (Elt F)) (g : (cc0_stg5_0 : Ref sig .tc).ty.Contents (Elt F)): sProp 𝕄 :=
  iprop(facts m K
    ∗ due (F := F) c (bill1 c)
    ∗ cred (tallyAt (dCell c (rcv0 1)) () N)
    ∗ atPos ER (dCell c (rcv0 1)) 0 ∅ 0
    ∗ holds c cc0_scratch1 (ebAfter1 m c f)
    ∗ holds c cc0_scratch2 (MoE.sw m c)
    ∗ holds c cc0_stg5_0 (g))
/-- It ends with the shared product stored and slot 1's block arrived. -/
def post8 (f : (cc0_scratch1 : Ref sig .tc).ty.Contents (Elt F)) (g : (cc0_stg5_0 : Ref sig .tc).ty.Contents (Elt F)): sProp 𝕄 :=
  iprop(due (F := F) c (bill1 c)
    ∗ semVal (dCell c (rcv0 1)) 0
    ∗ got0 m c 1
    ∗ holds c cc0_scratch1 (ebAfter1 m c f)
    ∗ holds c cc0_scratch2 (MoE.sw m c)
    ∗ holds c cc0_stg5_0 (out0 m c))

/-- Part 8 of the body: the own block finished, the shared product stored, and slot 1's arrival awaited. -/
theorem part8 (f : (cc0_scratch1 : Ref sig .tc).ty.Contents (Elt F)) (g : (cc0_stg5_0 : Ref sig .tc).ty.Contents (Elt F))
    (Kt : (Σ' (v251 : FVec F S128x512 .f32), BitVec 32) → sProp 𝕄) :
    iprop(pre8 (F := F) m K c f g ∗ (post8 (F := F) m c f g -∗ Kt ⟨own m c, 1#32⟩))
      ⊢ wp frame (wpE (defs₀ (F := F)) 𝒱₀ (c : Thread nD τ) none) Set.univ
          (k0_part8 xM (Memref.isWhole_whole _) rwM (Memref.isWhole_whole _) ixM (Memref.isWhole_whole _) ewM (Memref.isWhole_whole _)
            swM (Memref.isWhole_whole _) outM (Memref.isWhole_whole _) pM (Memref.isWhole_whole _) ebM (Memref.isWhole_whole _)
            sbM (Memref.isWhole_whole _) sendM (Memref.isWhole_whole _) rsM (Memref.isWhole_whole _) agM (Memref.isWhole_whole _)
            rM (Memref.isWhole_whole _) cc0_scratch7 cc0_scratch8 (word c) (xV m c) (Scalar.remsi (Scalar.addi (word c) 2#32) 4#32) (k0_pay15 (xO m c)) (k0_pay16 (F := F) (ixO m c)) (pO m c) (k0_pay17 (F := F)) (k0_pay18 (word c) (xO m c) (ixO m c) (pO m c)) (k0_pay19 (e0 m c)) (constant S128x512 .f32 0x00000000#32)) Kt := by
  rw [k0_part8_eq_skeleton]; unfold k0_part8_skel
  simp only [Prog.lift, Prog.bind_op, Prog.bind_ret, Prog.pure_eq_ret]
  unfold pre8
  iintro ⟨⟨#HF, Ho, Hc, Hat, Heb, Hsb, Hout⟩, Hk⟩
  iapply (wp_load 𝒱₀ (c : Thread nD τ) none Set.univ (m := ebM) (Finset.subset_univ _)) $$ Heb; iintro Heb
  rw [read_e1]
  unfold own
  iapply (wp_load 𝒱₀ (c : Thread nD τ) none Set.univ (m := sbM) (Finset.subset_univ _)) $$ Hsb; iintro Hsb
  iapply (wp_load 𝒱₀ (c : Thread nD τ) none Set.univ (m := outM) (Finset.subset_univ _)) $$ Hout; iintro Hout
  iapply (wp_store 𝒱₀ (c : Thread nD τ) none Set.univ (m := outM) (r := (Rect.unit (s := S512x512) ![0, 0] S512x512.size inb_S512x512_S512x512_0_0)) (Mk := Finset.univ) (Finset.subset_univ _)) $$ Hout; iintro Hout
  rw [show sbM.view.readAt (Elt F) _ (MoE.sw m c) = MoE.sw m c from Memref.readAt_unit_zero (Elt F) cc0_scratch2 hz2 _ _]
  rw [show (outM.access (Rect.unit (s := S512x512) ![0, 0] S512x512.size inb_S512x512_S512x512_0_0) : View sig .tc _ _ _).write (Elt F) g (k0_pay21 (xV m c) (MoE.sw m c)) Finset.univ = out0 m c from Memref.write_access_unit_zero_univ (Elt F) cc0_stg5_0 hz2 _ _ _]
  iapply (step_wait m K c (rcv0 1) _ (bill1_lv c) rfl (slot_credit rsM (by simp) 1)) $$ [Ho Hc Hat]
  · isplitr; · iexact HF
    isplitl [Ho]; · iexact Ho
    isplitl [Hc] <;> iassumption
  iintro ⟨Ho, Hz, Hpay⟩
  ihave Hg := (Entails.of_eq (dPay_rcv0 m c _)) $$ Hpay
  rw [wp_ret]; imodintro
  ihave H := Hk $$ [Ho Hz Hg Heb Hsb Hout]
  · unfold post8
    isplitl [Ho]; · iexact Ho
    isplitl [Hz]; · iexact Hz
    isplitl [Hg]; · iexact Hg
    isplitl [Heb]; · iexact Heb
    isplitl [Hsb]; · iexact Hsb
    iexact Hout
  iexact H

/-- Part 9 starts with slot 1's block arrived and two more awaited. -/
def pre9 (g : (cc0_scratch6 : Ref sig .tc).ty.Contents (Elt F)): sProp 𝕄 :=
  iprop(facts m K
    ∗ due (F := F) c (bill1 c)
    ∗ cred (tallyAt (dCell c (rcv0 2)) () N)
    ∗ atPos ER (dCell c (rcv0 2)) 0 ∅ 0
    ∗ cred (tallyAt (dCell c (rcv0 0)) () N)
    ∗ atPos ER (dCell c (rcv0 0)) 0 ∅ 0
    ∗ got0 m c 1
    ∗ holds c cc0_scratch6 (g))
/-- It ends with all three arrived. -/
def post9 (g : (cc0_scratch6 : Ref sig .tc).ty.Contents (Elt F)): sProp 𝕄 :=
  iprop(due (F := F) c (bill1 c)
    ∗ semVal (dCell c (rcv0 2)) 0
    ∗ semVal (dCell c (rcv0 0)) 0
    ∗ got0 m c 0
    ∗ got0 m c 1
    ∗ got0 m c 2
    ∗ holds c cc0_scratch6 (g))

/-- Part 9: the other two arrivals awaited and the own block of the routed sum added up. -/
theorem part9 (g : (cc0_scratch6 : Ref sig .tc).ty.Contents (Elt F))
    (Kt : (Σ' (v291 : FVec F S128x512 .f32) (v292 : FVec F S128x512 .bf16), Vec F S128x512 .bf16) → sProp 𝕄) :
    iprop(pre9 (F := F) m K c g ∗ (post9 (F := F) m c g -∗ Kt ⟨red m c, k0_pay23 (own m c) (k0_pay7 (arr m c 0)) (k0_pay7 (arr m c 1)) (k0_pay7 (arr m c 2)), g⟩))
      ⊢ wp frame (wpE (defs₀ (F := F)) 𝒱₀ (c : Thread nD τ) none) Set.univ
          (k0_part9 xM (Memref.isWhole_whole _) rwM (Memref.isWhole_whole _) ixM (Memref.isWhole_whole _) ewM (Memref.isWhole_whole _)
            swM (Memref.isWhole_whole _) outM (Memref.isWhole_whole _) pM (Memref.isWhole_whole _) ebM (Memref.isWhole_whole _)
            sbM (Memref.isWhole_whole _) sendM (Memref.isWhole_whole _) rsM (Memref.isWhole_whole _) agM (Memref.isWhole_whole _)
            rM (Memref.isWhole_whole _) cc0_scratch7 cc0_scratch8 (Scalar.remsi (Scalar.addi (word c) 1#32) 4#32) (Scalar.remsi (Scalar.addi (word c) 3#32) 4#32) (own m c) 1#32) Kt := by
  rw [k0_part9_eq_skeleton]; unfold k0_part9_skel
  simp only [Prog.lift, Prog.bind_op, Prog.bind_ret, Prog.pure_eq_ret]
  unfold pre9
  iintro ⟨⟨#HF, Ho, Hc2, Hat2, Hc0, Hat0, Hg1, Hr⟩, Hk⟩
  iapply (step_wait m K c (rcv0 2) _ (bill1_lv c) rfl (slot_credit rsM (by simp) 2)) $$ [Ho Hc2 Hat2]
  · isplitr; · iexact HF
    isplitl [Ho]; · iexact Ho
    isplitl [Hc2] <;> iassumption
  iintro ⟨Ho, Hz2, Hpay⟩
  ihave Hg2 := (Entails.of_eq (dPay_rcv0 m c _)) $$ Hpay
  iapply (step_wait m K c (rcv0 0) _ (bill1_lv c) rfl (slot_credit rsM (by simp) 0)) $$ [Ho Hc0 Hat0]
  · isplitr; · iexact HF
    isplitl [Ho]; · iexact Ho
    isplitl [Hc0] <;> iassumption
  iintro ⟨Ho, Hz0, Hpay⟩
  ihave Hg0 := (Entails.of_eq (dPay_rcv0 m c _)) $$ Hpay
  unfold got0
  iapply (wp_load_slot rsM 0 c) $$ Hg0; iintro Hg0
  iapply (wp_load_slot rsM 1 c) $$ Hg1; iintro Hg1
  iapply (wp_load_slot rsM 2 c) $$ Hg2; iintro Hg2
  iapply (wp_load 𝒱₀ (c : Thread nD τ) none Set.univ (m := rM) (Finset.subset_univ _)) $$ Hr; iintro Hr
  rw [show rM.view.readAt (Elt F) _ (g) = g from Memref.readAt_unit_zero (Elt F) cc0_scratch6 hz2 _ _]
  unfold red
  rw [wp_ret]; imodintro
  ihave H := Hk $$ [Ho Hz2 Hz0 Hg0 Hg1 Hg2 Hr]
  · unfold post9 got0
    isplitl [Ho]; · iexact Ho
    isplitl [Hz2]; · iexact Hz2
    isplitl [Hz0]; · iexact Hz0
    isplitl [Hg0]; · iexact Hg0
    isplitl [Hg1]; · iexact Hg1
    isplitl [Hg2]; · iexact Hg2
    iexact Hr
  iexact H

/-- What is still owed after two copies of phase 1. -/
def bill1b : List (GSem nD τ sig × ℕ) := [(dCell (dst 0 c) (rcv1 0), N)]

/-- Part 10 starts from the reduced block to be stored and two peers' landing slots. -/
def pre10 (g : (cc0_scratch6 : Ref sig .tc).ty.Contents (Elt F)): sProp 𝕄 :=
  iprop(facts m K
    ∗ due (F := F) c (bill1 c)
    ∗ holds c cc0_scratch6 (g)
    ∗ anyAt (F := F) (dst 1 c) (slot agM 1)
    ∗ dutyTok ER (dCell c (snd1 1)) 0 0
    ∗ dutyTok ER (dCell (dst 1 c) (rcv1 1)) 0 0
    ∗ anyAt (F := F) (dst 2 c) (slot agM 2)
    ∗ dutyTok ER (dCell c (snd1 2)) 0 0
    ∗ dutyTok ER (dCell (dst 2 c) (rcv1 2)) 0 0)
/-- It ends with two copies on their way, their credit and the third part of the reduced block in hand. -/
def post10 (g : (cc0_scratch6 : Ref sig .tc).ty.Contents (Elt F)): sProp 𝕄 :=
  iprop(due (F := F) c (bill1b c)
    ∗ cred (tallyAt (dCell c (snd1 1)) () N)
    ∗ cred (tallyAt (dCell c (snd1 2)) () N)
    ∗ redPart m c 0)

/-- Part 10: the reduced block stored and its first two copies started. -/
theorem part10 (g : (cc0_scratch6 : Ref sig .tc).ty.Contents (Elt F))
    (Kt : (Σ' (v297 : BitVec 32) (v307 : BitVec 32), BitVec 32) → sProp 𝕄) :
    iprop(pre10 (F := F) m K c g ∗ (post10 (F := F) m c g -∗ Kt ⟨(Scalar.remsi (Scalar.addi (word c) 2#32) 4#32), (Scalar.remsi (Scalar.addi (word c) 1#32) 4#32), (Scalar.remsi (Scalar.addi (word c) 3#32) 4#32)⟩))
      ⊢ wp frame (wpE (defs₀ (F := F)) 𝒱₀ (c : Thread nD τ) none) Set.univ
          (k0_part10 xM (Memref.isWhole_whole _) rwM (Memref.isWhole_whole _) ixM (Memref.isWhole_whole _) ewM (Memref.isWhole_whole _)
            swM (Memref.isWhole_whole _) outM (Memref.isWhole_whole _) pM (Memref.isWhole_whole _) ebM (Memref.isWhole_whole _)
            sbM (Memref.isWhole_whole _) sendM (Memref.isWhole_whole _) rsM (Memref.isWhole_whole _) agM (Memref.isWhole_whole _)
            rM (Memref.isWhole_whole _) cc0_scratch7 cc0_scratch8 c (word c) (k0_pay23 (own m c) (k0_pay7 (arr m c 0)) (k0_pay7 (arr m c 1)) (k0_pay7 (arr m c 2))) g) Kt := by
  rw [k0_part10_eq_skeleton]; unfold k0_part10_skel
  simp only [Prog.lift, Prog.bind_op, Prog.bind_ret, Prog.pure_eq_ret]
  unfold pre10
  iintro ⟨⟨#HF, Ho, Hr, Hd1, HtS1, HtR1, Hd2, HtS2, HtR2⟩, Hk⟩
  iapply (wp_store 𝒱₀ (c : Thread nD τ) none Set.univ (m := rM) (r := (Rect.unit (s := S128x512) ![0, 0] S128x512.size inb_S128x512_S128x512_0_0)) (Mk := Finset.univ) (Finset.subset_univ _)) $$ Hr; iintro Hr
  rw [show (rM.access (Rect.unit (s := S128x512) ![0, 0] S128x512.size inb_S128x512_S128x512_0_0) : View sig .tc _ _ _).write (Elt F) g (k0_pay24 (k0_pay23 (own m c) (k0_pay7 (arr m c 0)) (k0_pay7 (arr m c 1)) (k0_pay7 (arr m c 2)))) Finset.univ = redN m c from Memref.write_access_unit_zero_univ (Elt F) cc0_scratch6 hz2 _ _ _]
  ihave Hr' := (Entails.of_eq (red_owns c fullShare (redN m c)).symm) $$ Hr
  ihave Hrr := (red_split m c) $$ Hr'
  icases Hrr with ⟨Hr0, Hr1, Hr2⟩
  unfold bill1
  iapply (step_copy1 m K c 1 _ (dev7_dst c) _ rfl rfl) $$ [Ho Hr1 Hd1 HtS1 HtR1]
  · isplitr; · iexact HF
    isplitl [Ho]; · iexact Ho
    isplitl [Hr1]; · iexact Hr1
    isplitl [Hd1]; · iexact Hd1
    isplitl [HtS1]; · iexact HtS1
    iexact HtR1
  iintro ⟨Ho, Hc1⟩
  iapply (step_copy1 m K c 2 _ (dev8_dst c) _ rfl rfl) $$ [Ho Hr2 Hd2 HtS2 HtR2]
  · isplitr; · iexact HF
    isplitl [Ho]; · iexact Ho
    isplitl [Hr2]; · iexact Hr2
    isplitl [Hd2]; · iexact Hd2
    isplitl [HtS2]; · iexact HtS2
    iexact HtR2
  iintro ⟨Ho, Hc2⟩
  rw [wp_ret]; imodintro
  ihave H := Hk $$ [Ho Hc1 Hc2 Hr0]
  · unfold post10
    isplitl [Ho]; · iexact Ho
    isplitl [Hc1]; · iexact Hc1
    isplitl [Hc2]; · iexact Hc2
    iexact Hr0
  iexact H

end Cert.KernelIdeal.MoE

end
-- ==== Proof.Body5.lean ====
/-
The last copy, and the four blocks of the routed sum added to the result.
-/
module

public import proofs.«01_k».proof.Proof.Body4

@[expose] public section

noncomputable section

namespace Cert.KernelIdeal.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

/-- Part 11 starts from the last copy to be made and two arrivals awaited. -/
def pre11 : sProp 𝕄 :=
  iprop(facts m K
    ∗ due (F := F) c (bill1b c)
    ∗ redPart m c 0
    ∗ anyAt (F := F) (dst 0 c) (slot agM 0)
    ∗ dutyTok ER (dCell c (snd1 0)) 0 0
    ∗ dutyTok ER (dCell (dst 0 c) (rcv1 0)) 0 0
    ∗ holds c cc0_stg5_0 (out0 m c)
    ∗ cred (tallyAt (dCell c (rcv1 1)) () N)
    ∗ atPos ER (dCell c (rcv1 1)) 0 ∅ 0
    ∗ cred (tallyAt (dCell c (rcv1 2)) () N)
    ∗ atPos ER (dCell c (rcv1 2)) 0 ∅ 0)
/-- It ends with the own block added and slots 1 and 2 arrived. -/
def post11 : sProp 𝕄 :=
  iprop(due (F := F) c []
    ∗ cred (tallyAt (dCell c (snd1 0)) () N)
    ∗ holds c cc0_stg5_0 (out1 m c)
    ∗ semVal (dCell c (rcv1 1)) 0
    ∗ got1 m c 1
    ∗ semVal (dCell c (rcv1 2)) 0
    ∗ got1 m c 2)

/-- Part 11 of the body: the last copy started, the own block added to the result, two arrivals awaited. -/
theorem part11
    (Kt : (BitVec 32) → sProp 𝕄) :
    iprop(pre11 (F := F) m K c  ∗ (post11 (F := F) m c  -∗ Kt 1#32))
      ⊢ wp frame (wpE (defs₀ (F := F)) 𝒱₀ (c : Thread nD τ) none) Set.univ
          (k0_part11 xM (Memref.isWhole_whole _) rwM (Memref.isWhole_whole _) ixM (Memref.isWhole_whole _) ewM (Memref.isWhole_whole _)
            swM (Memref.isWhole_whole _) outM (Memref.isWhole_whole _) pM (Memref.isWhole_whole _) ebM (Memref.isWhole_whole _)
            sbM (Memref.isWhole_whole _) sendM (Memref.isWhole_whole _) rsM (Memref.isWhole_whole _) agM (Memref.isWhole_whole _)
            rM (Memref.isWhole_whole _) cc0_scratch7 cc0_scratch8 c (word c) (red m c) (Scalar.remsi (Scalar.addi (word c) 2#32) 4#32) (Scalar.remsi (Scalar.addi (word c) 1#32) 4#32)) Kt := by
  rw [k0_part11_eq_skeleton]; unfold k0_part11_skel
  simp only [Prog.lift, Prog.bind_op, Prog.bind_ret, Prog.pure_eq_ret]
  unfold pre11
  iintro ⟨⟨#HF, Ho, Hr0, Hd, HtS, HtR, Hout, Hc1, Hat1, Hc2, Hat2⟩, Hk⟩
  unfold bill1b
  iapply (step_copy1 m K c 0 _ (dev9_dst c) _ rfl rfl) $$ [Ho Hr0 Hd HtS HtR]
  · isplitr; · iexact HF
    isplitl [Ho]; · iexact Ho
    isplitl [Hr0]; · iexact Hr0
    isplitl [Hd]; · iexact Hd
    isplitl [HtS]; · iexact HtS
    iexact HtR
  iintro ⟨Ho, Hc⟩
  iapply (wp_load 𝒱₀ (c : Thread nD τ) none Set.univ (m := outM) (Finset.subset_univ _)) $$ Hout; iintro Hout
  iapply (wp_load 𝒱₀ (c : Thread nD τ) none Set.univ (m := outM) (Finset.subset_univ _)) $$ Hout; iintro Hout
  iapply (wp_store 𝒱₀ (c : Thread nD τ) none Set.univ (m := outM) (r := (outOwn c)) (Mk := Finset.univ) (Finset.subset_univ _)) $$ Hout; iintro Hout
  iapply (step_wait m K c (rcv1 1) _ (fun x hx => absurd hx List.not_mem_nil) rfl (slot_credit agM (by simp) 1)) $$ [Ho Hc1 Hat1]
  · isplitr; · iexact HF
    isplitl [Ho]; · iexact Ho
    isplitl [Hc1] <;> iassumption
  iintro ⟨Ho, Hz1, Hpay⟩
  ihave Hg1 := (Entails.of_eq (dPay_rcv1 m c _)) $$ Hpay
  iapply (step_wait m K c (rcv1 2) _ (fun x hx => absurd hx List.not_mem_nil) rfl (slot_credit agM (by simp) 2)) $$ [Ho Hc2 Hat2]
  · isplitr; · iexact HF
    isplitl [Ho]; · iexact Ho
    isplitl [Hc2] <;> iassumption
  iintro ⟨Ho, Hz2, Hpay⟩
  ihave Hg2 := (Entails.of_eq (dPay_rcv1 m c _)) $$ Hpay
  rw [wp_ret]; imodintro
  ihave H := Hk $$ [Ho Hc Hout Hz1 Hg1 Hz2 Hg2]
  · unfold post11
    isplitl [Ho]; · iexact Ho
    isplitl [Hc]; · iexact Hc
    isplitl [Hout]; · iexact Hout
    isplitl [Hz1]; · iexact Hz1
    isplitl [Hg1]; · iexact Hg1
    isplitl [Hz2]; · iexact Hz2
    iexact Hg2
  iexact H

/-- Part 12 starts with slots 1 and 2 arrived and slot 0 awaited. -/
def pre12 : sProp 𝕄 :=
  iprop(facts m K
    ∗ due (F := F) c []
    ∗ cred (tallyAt (dCell c (rcv1 0)) () N)
    ∗ atPos ER (dCell c (rcv1 0)) 0 ∅ 0
    ∗ holds c cc0_stg5_0 (out1 m c)
    ∗ got1 m c 1)
/-- It ends with the first two peers' blocks added. -/
def post12 : sProp 𝕄 :=
  iprop(due (F := F) c []
    ∗ semVal (dCell c (rcv1 0)) 0
    ∗ holds c cc0_stg5_0 (out3 m c)
    ∗ got1 m c 0
    ∗ got1 m c 1)

/-- Part 12: the last arrival awaited and two peers' blocks added to the result. -/
theorem part12
    (Kt : (PUnit) → sProp 𝕄) :
    iprop(pre12 (F := F) m K c  ∗ (post12 (F := F) m c  -∗ Kt ⟨⟩))
      ⊢ wp frame (wpE (defs₀ (F := F)) 𝒱₀ (c : Thread nD τ) none) Set.univ
          (k0_part12 xM (Memref.isWhole_whole _) rwM (Memref.isWhole_whole _) ixM (Memref.isWhole_whole _) ewM (Memref.isWhole_whole _)
            swM (Memref.isWhole_whole _) outM (Memref.isWhole_whole _) pM (Memref.isWhole_whole _) ebM (Memref.isWhole_whole _)
            sbM (Memref.isWhole_whole _) sendM (Memref.isWhole_whole _) rsM (Memref.isWhole_whole _) agM (Memref.isWhole_whole _)
            rM (Memref.isWhole_whole _) cc0_scratch7 cc0_scratch8 c (word c) (Scalar.remsi (Scalar.addi (word c) 3#32) 4#32) 1#32) Kt := by
  rw [k0_part12_eq_skeleton]; unfold k0_part12_skel
  simp only [Prog.lift, Prog.bind_op, Prog.bind_ret, Prog.pure_eq_ret]
  unfold pre12
  iintro ⟨⟨#HF, Ho, Hc, Hat, Hout, Hg1⟩, Hk⟩
  iapply (step_wait m K c (rcv1 0) _ (fun x hx => absurd hx List.not_mem_nil) rfl (slot_credit agM (by simp) 0)) $$ [Ho Hc Hat]
  · isplitr; · iexact HF
    isplitl [Ho]; · iexact Ho
    isplitl [Hc] <;> iassumption
  iintro ⟨Ho, Hz, Hpay⟩
  ihave Hg0 := (Entails.of_eq (dPay_rcv1 m c _)) $$ Hpay
  unfold got1
  iapply (wp_load 𝒱₀ (c : Thread nD τ) none Set.univ (m := outM) (Finset.subset_univ _)) $$ Hout; iintro Hout
  iapply (wp_load_slot agM 0 c) $$ Hg0; iintro Hg0
  iapply (wp_load 𝒱₀ (c : Thread nD τ) none Set.univ (m := outM) (Finset.subset_univ _)) $$ Hout; iintro Hout
  iapply (wp_store 𝒱₀ (c : Thread nD τ) none Set.univ (m := outM) (r := (outRect c 0)) (Mk := Finset.univ) (Finset.subset_univ _)) $$ Hout; iintro Hout
  iapply (wp_load 𝒱₀ (c : Thread nD τ) none Set.univ (m := outM) (Finset.subset_univ _)) $$ Hout; iintro Hout
  iapply (wp_load_slot agM 1 c) $$ Hg1; iintro Hg1
  iapply (wp_load 𝒱₀ (c : Thread nD τ) none Set.univ (m := outM) (Finset.subset_univ _)) $$ Hout; iintro Hout
  iapply (wp_store 𝒱₀ (c : Thread nD τ) none Set.univ (m := outM) (r := (outRect c 1)) (Mk := Finset.univ) (Finset.subset_univ _)) $$ Hout; iintro Hout
  rw [wp_ret]; imodintro
  ihave H := Hk $$ [Ho Hz Hout Hg0 Hg1]
  · unfold post12 got1
    isplitl [Ho]; · iexact Ho
    isplitl [Hz]; · iexact Hz
    isplitl [Hout]; · iexact Hout
    isplitl [Hg0]; · iexact Hg0
    iexact Hg1
  iexact H

/-- Part 13 starts with slot 2 arrived and the first send awaited. -/
def pre13 : sProp 𝕄 :=
  iprop(facts m K
    ∗ due (F := F) c []
    ∗ cred (tallyAt (dCell c (snd0 1)) () N)
    ∗ atPos ER (dCell c (snd0 1)) 0 ∅ 0
    ∗ holds c cc0_stg5_0 (out3 m c)
    ∗ got1 m c 2)
/-- It ends with the result complete and the send buffer's slot 1 back. -/
def post13 : sProp 𝕄 :=
  iprop(due (F := F) c []
    ∗ semVal (dCell c (snd0 1)) 0
    ∗ holds c cc0_stg5_0 (out4 m c)
    ∗ got1 m c 2
    ∗ anyAt (F := F) c (slot sendM 1))

/-- Part 13: the last peer's block added and the first send awaited. -/
theorem part13
    (Kt : (PUnit) → sProp 𝕄) :
    iprop(pre13 (F := F) m K c  ∗ (post13 (F := F) m c  -∗ Kt ⟨⟩))
      ⊢ wp frame (wpE (defs₀ (F := F)) 𝒱₀ (c : Thread nD τ) none) Set.univ
          (k0_part13 xM (Memref.isWhole_whole _) rwM (Memref.isWhole_whole _) ixM (Memref.isWhole_whole _) ewM (Memref.isWhole_whole _)
            swM (Memref.isWhole_whole _) outM (Memref.isWhole_whole _) pM (Memref.isWhole_whole _) ebM (Memref.isWhole_whole _)
            sbM (Memref.isWhole_whole _) sendM (Memref.isWhole_whole _) rsM (Memref.isWhole_whole _) agM (Memref.isWhole_whole _)
            rM (Memref.isWhole_whole _) cc0_scratch7 cc0_scratch8 c (word c)) Kt := by
  rw [k0_part13_eq_skeleton]; unfold k0_part13_skel
  simp only [Prog.lift, Prog.bind_op, Prog.bind_ret, Prog.pure_eq_ret]
  unfold pre13
  iintro ⟨⟨#HF, Ho, Hc, Hat, Hout, Hg2⟩, Hk⟩
  unfold got1
  iapply (wp_load 𝒱₀ (c : Thread nD τ) none Set.univ (m := outM) (Finset.subset_univ _)) $$ Hout; iintro Hout
  iapply (wp_load_slot agM 2 c) $$ Hg2; iintro Hg2
  iapply (wp_load 𝒱₀ (c : Thread nD τ) none Set.univ (m := outM) (Finset.subset_univ _)) $$ Hout; iintro Hout
  iapply (wp_store 𝒱₀ (c : Thread nD τ) none Set.univ (m := outM) (r := (outRect c 2)) (Mk := Finset.univ) (Finset.subset_univ _)) $$ Hout; iintro Hout
  iapply (step_wait m K c (snd0 1) _ (fun x hx => absurd hx List.not_mem_nil) rfl (slot_credit sendM (by simp) 1)) $$ [Ho Hc Hat]
  · isplitr; · iexact HF
    isplitl [Ho]; · iexact Ho
    isplitl [Hc] <;> iassumption
  iintro ⟨Ho, Hz, Hpay⟩
  ihave Hs := (Entails.of_eq (dPay_snd0 m c _)) $$ Hpay
  rw [wp_ret]; imodintro
  ihave H := Hk $$ [Ho Hz Hout Hg2 Hs]
  · unfold post13 got1
    isplitl [Ho]; · iexact Ho
    isplitl [Hz]; · iexact Hz
    isplitl [Hout]; · iexact Hout
    isplitl [Hg2]; · iexact Hg2
    iexact Hs
  iexact H

end Cert.KernelIdeal.MoE

end
-- ==== Proof.Body.lean ====
/-
The kernel's body on one device: its fourteen parts in order, from what the launch deals it to the result array filled and every
semaphore back at zero.
-/
module

public import proofs.«01_k».proof.Proof.Body5

@[expose] public section

noncomputable section

namespace Cert.KernelIdeal.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 13 → ℕ) (c : Dev nD)

/-- Three of a kind, one for each slot. -/
abbrev three (P : Fin 3 → sProp 𝕄) : sProp 𝕄 := iprop(P 0 ∗ P 1 ∗ P 2)

/-- The duties device `c` pays: a signal to each peer, and the two ends of each of its six copies. -/
def payToks : sProp 𝕄 :=
  iprop(three (fun s => dutyTok ER (barCell (src s c)) 0 s)
    ∗ three (fun s => dutyTok ER (dCell c (snd0 s)) 0 0) ∗ three (fun s => dutyTok ER (dCell (dst s c) (rcv0 s)) 0 0)
    ∗ three (fun s => dutyTok ER (dCell c (snd1 s)) 0 0) ∗ three (fun s => dutyTok ER (dCell (dst s c) (rcv1 s)) 0 0))
/-- Device `c` at round 0 of its thirteen cells. -/
def poss : sProp 𝕄 :=
  iprop(atPos ER (barCell c) 0 ∅ 0
    ∗ three (fun s => atPos ER (dCell c (snd0 s)) 0 ∅ 0) ∗ three (fun s => atPos ER (dCell c (snd1 s)) 0 ∅ 0)
    ∗ three (fun s => atPos ER (dCell c (rcv0 s)) 0 ∅ 0) ∗ three (fun s => atPos ER (dCell c (rcv1 s)) 0 ∅ 0))
/-- What the others owe it: three signals, and a copy on each of its six arrival cells. -/
def credits : sProp 𝕄 :=
  iprop(cred (tallyAt (barCell c) () 3)
    ∗ three (fun s => cred (tallyAt (dCell c (rcv0 s)) () N)) ∗ three (fun s => cred (tallyAt (dCell c (rcv1 s)) () N)))
/-- Its seven private arrays, whatever they hold. -/
def scr : sProp 𝕄 :=
  iprop((∃ f, holds (F := F) c cc0_scratch0 f) ∗ (∃ f, holds (F := F) c cc0_scratch1 f) ∗ (∃ f, holds (F := F) c cc0_scratch2 f)
    ∗ (∃ f, holds (F := F) c cc0_scratch3 f) ∗ (∃ f, holds (F := F) c cc0_scratch4 f) ∗ (∃ f, holds (F := F) c cc0_scratch5 f)
    ∗ (∃ f, holds (F := F) c cc0_scratch6 f))
/-- Its twelve transfer semaphores at zero. -/
def dmaZero : sProp 𝕄 :=
  iprop(three (fun s => semVal (dCell c (snd0 s)) 0) ∗ three (fun s => semVal (dCell c (snd1 s)) 0)
    ∗ three (fun s => semVal (dCell c (rcv0 s)) 0) ∗ three (fun s => semVal (dCell c (rcv1 s)) 0))

/-- Before the body. -/
def bodyPre (g : (cc0_stg5_0 : Ref sig .tc).ty.Contents (Elt F)) : sProp 𝕄 :=
  iprop(facts m K ∗ due c (bill c) ∗ payToks (F := F) c ∗ poss (F := F) c ∗ credits (F := F) c ∗ scr (F := F) c
    ∗ holds c cc0_stg0_0 (xS m c) ∗ holds c cc0_stg1_0 (rwS m c) ∗ holds c cc0_stg2_0 (ixS m c) ∗ holds c cc0_stg3_0 (ewS m c)
    ∗ holds c cc0_stg4_0 (swS m c) ∗ holds c cc0_stg5_0 g)
/-- After it. -/
def bodyPost : sProp 𝕄 :=
  iprop(due c [] ∗ scr (F := F) c ∗ dmaZero (F := F) c ∗ semVal (barCell c) 0
    ∗ holds c cc0_stg0_0 (xS m c) ∗ holds c cc0_stg1_0 (rwS m c) ∗ holds c cc0_stg2_0 (ixS m c) ∗ holds c cc0_stg3_0 (ewS m c)
    ∗ holds c cc0_stg4_0 (swS m c) ∗ holds c cc0_stg5_0 (out4 m c))

/-- The whole body on device `c`, from its start to its end. -/
theorem body (g : (cc0_stg5_0 : Ref sig .tc).ty.Contents (Elt F)) (Kt : PUnit → sProp 𝕄) :
    iprop(bodyPre m K c g ∗ (bodyPost m c -∗ Kt ⟨⟩))
      ⊢ wp frame (wpE (defs₀ (F := F)) 𝒱₀ (c : Thread nD τ) none) Set.univ
          (cc0_body xM (Memref.isWhole_whole _) rwM (Memref.isWhole_whole _) ixM (Memref.isWhole_whole _) ewM (Memref.isWhole_whole _)
            swM (Memref.isWhole_whole _) outM (Memref.isWhole_whole _) pM (Memref.isWhole_whole _) ebM (Memref.isWhole_whole _)
            sbM (Memref.isWhole_whole _) sendM (Memref.isWhole_whole _) rsM (Memref.isWhole_whole _) agM (Memref.isWhole_whole _)
            rM (Memref.isWhole_whole _) cc0_scratch7 cc0_scratch8) Kt := by
  rw [cc0_body_eq_skeleton]; unfold cc0_body_skel
  rw [k0_part14_eq_skeleton]; unfold k0_part14_skel
  unfold bodyPre payToks poss credits scr
  iintro ⟨⟨#HF, Ho, ⟨⟨TB0, TB1, TB2⟩, ⟨TS0, TS1, TS2⟩, ⟨TR0, TR1, TR2⟩, ⟨US0, US1, US2⟩, ⟨UR0, UR1, UR2⟩⟩,
    ⟨AB, ⟨AS0, AS1, AS2⟩, ⟨BS0, BS1, BS2⟩, ⟨AR0, AR1, AR2⟩, ⟨BR0, BR1, BR2⟩⟩,
    ⟨CB, ⟨CR0, CR1, CR2⟩, ⟨DR0, DR1, DR2⟩⟩,
    ⟨⟨%f0, Hp⟩, ⟨%f1, Heb⟩, ⟨%f2, Hsb⟩, Hsend, Hrs, Hag, ⟨%f6, Hr⟩⟩, Hx, Hrw, Hix, Hew, Hsw, Hout⟩, Hk⟩
  ihave Hsend' := (send_split c) $$ Hsend
  ihave Hrs' := (rs_split c) $$ Hrs
  ihave Hag' := (ag_split c) $$ Hag
  icases Hsend' with ⟨S0, S1, S2⟩
  rw [wp_bind]
  rw [wp_bind]
  iapply (part1 m K c f1 _)
  isplitl [Ho TB0 TB1 TB2 Hrs' Hag' CB AB Hx Hew Heb]
  · unfold pre1
    isplitr; · iexact HF
    isplitl [Ho]; · iexact Ho
    isplitl [TB0]; · iexact TB0
    isplitl [TB1]; · iexact TB1
    isplitl [TB2]; · iexact TB2
    isplitl [Hrs']; · iexact Hrs'
    isplitl [Hag']; · iexact Hag'
    isplitl [CB]; · iexact CB
    isplitl [AB]; · iexact AB
    isplitl [Hx]; · iexact Hx
    isplitl [Hew]; · iexact Hew
    iexact Heb
  unfold post1 barPay
  iintro ⟨Ho, ZB, ⟨PR0, PA0⟩, ⟨PR1, PA1⟩, ⟨PR2, PA2⟩, Hx, Hew, Heb⟩
  dsimp only
  rw [wp_bind]
  iapply (part2 m c f1 f2 f0 _)
  isplitl [Hew Heb Hsw Hsb Hrw Hix Hx Hp]
  · unfold pre2
    isplitl [Hew]; · iexact Hew
    isplitl [Heb]; · iexact Heb
    isplitl [Hsw]; · iexact Hsw
    isplitl [Hsb]; · iexact Hsb
    isplitl [Hrw]; · iexact Hrw
    isplitl [Hix]; · iexact Hix
    isplitl [Hx]; · iexact Hx
    iexact Hp
  unfold post2
  iintro ⟨Hew, Heb, Hsw, Hsb, Hrw, Hix, Hx, Hp⟩
  dsimp only
  rw [wp_bind]
  iapply (part3 m c f1 _)
  isplitl [Hx Hix Hp Heb]
  · unfold pre3
    isplitl [Hx]; · iexact Hx
    isplitl [Hix]; · iexact Hix
    isplitl [Hp]; · iexact Hp
    iexact Heb
  unfold post3
  iintro ⟨Hx, Hix, Hp, Heb⟩
  dsimp only
  rw [wp_bind]
  iapply (part4 m K c  _)
  isplitl [Ho S1 PR1 TS1 TR1 Hx Hix Hp]
  · unfold pre4
    isplitr; · iexact HF
    isplitl [Ho]; · iexact Ho
    isplitl [S1]; · iexact S1
    isplitl [PR1]; · iexact PR1
    isplitl [TS1]; · iexact TS1
    isplitl [TR1]; · iexact TR1
    isplitl [Hx]; · iexact Hx
    isplitl [Hix]; · iexact Hix
    iexact Hp
  unfold post4
  iintro ⟨Ho, CS1, Hx, Hix, Hp⟩
  dsimp only
  rw [wp_bind]
  iapply (part5 m K c f1 _)
  isplitl [Ho S2 PR2 TS2 TR2 Heb]
  · unfold pre5
    isplitr; · iexact HF
    isplitl [Ho]; · iexact Ho
    isplitl [S2]; · iexact S2
    isplitl [PR2]; · iexact PR2
    isplitl [TS2]; · iexact TS2
    isplitl [TR2]; · iexact TR2
    iexact Heb
  unfold post5
  iintro ⟨Ho, CS2, Heb⟩
  dsimp only
  rw [wp_bind]
  iapply (part6 m c f1 _)
  isplitl [Hx Hix Hp Heb]
  · unfold pre6
    isplitl [Hx]; · iexact Hx
    isplitl [Hix]; · iexact Hix
    isplitl [Hp]; · iexact Hp
    iexact Heb
  unfold post6
  iintro ⟨Hx, Hix, Hp, Heb⟩
  dsimp only
  rw [wp_bind]
  iapply (part7 m K c f1 _)
  isplitl [Ho S0 PR0 TS0 TR0 Hx Hix Hp Heb]
  · unfold pre7
    isplitr; · iexact HF
    isplitl [Ho]; · iexact Ho
    isplitl [S0]; · iexact S0
    isplitl [PR0]; · iexact PR0
    isplitl [TS0]; · iexact TS0
    isplitl [TR0]; · iexact TR0
    isplitl [Hx]; · iexact Hx
    isplitl [Hix]; · iexact Hix
    isplitl [Hp]; · iexact Hp
    iexact Heb
  unfold post7
  iintro ⟨Ho, CS0, Hx, Hix, Hp, Heb⟩
  dsimp only
  rw [wp_bind]
  iapply (part8 m K c f1 g _)
  isplitl [Ho CR1 AR1 Heb Hsb Hout]
  · unfold pre8
    isplitr; · iexact HF
    isplitl [Ho]; · iexact Ho
    isplitl [CR1]; · iexact CR1
    isplitl [AR1]; · iexact AR1
    isplitl [Heb]; · iexact Heb
    isplitl [Hsb]; · iexact Hsb
    iexact Hout
  unfold post8
  iintro ⟨Ho, ZR1, G1, Heb, Hsb, Hout⟩
  dsimp only
  rw [wp_bind]
  iapply (part9 m K c f6 _)
  isplitl [Ho CR2 AR2 CR0 AR0 G1 Hr]
  · unfold pre9
    isplitr; · iexact HF
    isplitl [Ho]; · iexact Ho
    isplitl [CR2]; · iexact CR2
    isplitl [AR2]; · iexact AR2
    isplitl [CR0]; · iexact CR0
    isplitl [AR0]; · iexact AR0
    isplitl [G1]; · iexact G1
    iexact Hr
  unfold post9
  iintro ⟨Ho, ZR2, ZR0, G0, G1, G2, Hr⟩
  dsimp only
  rw [wp_bind]
  iapply (part10 m K c f6 _)
  isplitl [Ho Hr PA1 US1 UR1 PA2 US2 UR2]
  · unfold pre10
    isplitr; · iexact HF
    isplitl [Ho]; · iexact Ho
    isplitl [Hr]; · iexact Hr
    isplitl [PA1]; · iexact PA1
    isplitl [US1]; · iexact US1
    isplitl [UR1]; · iexact UR1
    isplitl [PA2]; · iexact PA2
    isplitl [US2]; · iexact US2
    iexact UR2
  unfold post10
  iintro ⟨Ho, ES1, ES2, Hr0⟩
  dsimp only
  rw [wp_bind]
  iapply (part11 m K c  _)
  isplitl [Ho Hr0 PA0 US0 UR0 Hout DR1 BR1 DR2 BR2]
  · unfold pre11
    isplitr; · iexact HF
    isplitl [Ho]; · iexact Ho
    isplitl [Hr0]; · iexact Hr0
    isplitl [PA0]; · iexact PA0
    isplitl [US0]; · iexact US0
    isplitl [UR0]; · iexact UR0
    isplitl [Hout]; · iexact Hout
    isplitl [DR1]; · iexact DR1
    isplitl [BR1]; · iexact BR1
    isplitl [DR2]; · iexact DR2
    iexact BR2
  unfold post11
  iintro ⟨Ho, ES0, Hout, YR1, J1, YR2, J2⟩
  rw [wp_bind]
  iapply (part12 m K c  _)
  isplitl [Ho DR0 BR0 Hout J1]
  · unfold pre12
    isplitr; · iexact HF
    isplitl [Ho]; · iexact Ho
    isplitl [DR0]; · iexact DR0
    isplitl [BR0]; · iexact BR0
    isplitl [Hout]; · iexact Hout
    iexact J1
  unfold post12
  iintro ⟨Ho, YR0, Hout, J0, J1⟩
  rw [wp_bind]
  iapply (part13 m K c  _)
  isplitl [Ho CS1 AS1 Hout J2]
  · unfold pre13
    isplitr; · iexact HF
    isplitl [Ho]; · iexact Ho
    isplitl [CS1]; · iexact CS1
    isplitl [AS1]; · iexact AS1
    isplitl [Hout]; · iexact Hout
    iexact J2
  unfold post13
  iintro ⟨Ho, ZS1, Hout, J2, S1⟩
  simp only [Prog.lift, Prog.bind_op, Prog.bind_ret, Prog.pure_eq_ret]
  iapply (step_wait m K c (snd0 2) _ (fun x hx => absurd hx List.not_mem_nil) rfl (slot_credit sendM (by simp) 2)) $$ [Ho CS2 AS2]
  · isplitr; · iexact HF
    isplitl [Ho]; · iexact Ho
    isplitl [CS2] <;> iassumption
  iintro ⟨Ho, ZS2, Hpay⟩
  ihave S2 := (Entails.of_eq (dPay_snd0 m c _)) $$ Hpay
  iapply (step_wait m K c (snd0 0) _ (fun x hx => absurd hx List.not_mem_nil) rfl (slot_credit sendM (by simp) 0)) $$ [Ho CS0 AS0]
  · isplitr; · iexact HF
    isplitl [Ho]; · iexact Ho
    isplitl [CS0] <;> iassumption
  iintro ⟨Ho, ZS0, Hpay⟩
  ihave S0 := (Entails.of_eq (dPay_snd0 m c _)) $$ Hpay
  iapply (step_wait m K c (snd1 1) _ (fun x hx => absurd hx List.not_mem_nil) rfl rfl) $$ [Ho ES1 BS1]
  · isplitr; · iexact HF
    isplitl [Ho]; · iexact Ho
    isplitl [ES1] <;> iassumption
  iintro ⟨Ho, YS1, Hpay⟩
  ihave R1 := (Entails.of_eq (dPay_snd1 m c _)) $$ Hpay
  iapply (step_wait m K c (snd1 2) _ (fun x hx => absurd hx List.not_mem_nil) rfl rfl) $$ [Ho ES2 BS2]
  · isplitr; · iexact HF
    isplitl [Ho]; · iexact Ho
    isplitl [ES2] <;> iassumption
  iintro ⟨Ho, YS2, Hpay⟩
  ihave R2 := (Entails.of_eq (dPay_snd1 m c _)) $$ Hpay
  rw [wp_ret]; imodintro
  iapply (step_wait m K c (snd1 0) _ (fun x hx => absurd hx List.not_mem_nil) rfl rfl) $$ [Ho ES0 BS0]
  · isplitr; · iexact HF
    isplitl [Ho]; · iexact Ho
    isplitl [ES0] <;> iassumption
  iintro ⟨Ho, YS0, Hpay⟩
  ihave R0 := (Entails.of_eq (dPay_snd1 m c _)) $$ Hpay
  rw [wp_ret]; imodintro
  ihave Hr' := (red_join m c) $$ [R0 R1 R2]
  · isplitl [R0]; · iexact R0
    isplitl [R1] <;> iassumption
  ihave Hr := (Entails.of_eq (red_owns c fullShare (redN m c))) $$ Hr'
  unfold got0 got1
  ihave G0' := (any_of_owns rsM 0 c _) $$ G0
  ihave G1' := (any_of_owns rsM 1 c _) $$ G1
  ihave G2' := (any_of_owns rsM 2 c _) $$ G2
  ihave J0' := (any_of_owns agM 0 c _) $$ J0
  ihave J1' := (any_of_owns agM 1 c _) $$ J1
  ihave J2' := (any_of_owns agM 2 c _) $$ J2
  ihave Hsend := (send_join (F := F) c) $$ [S0 S1 S2]
  · isplitl [S0]; · iexact S0
    isplitl [S1] <;> iassumption
  ihave Hrs := (rs_join (F := F) c) $$ [G0' G1' G2']
  · isplitl [G0']; · iexact G0'
    isplitl [G1'] <;> iassumption
  ihave Hag := (ag_join (F := F) c) $$ [J0' J1' J2']
  · isplitl [J0']; · iexact J0'
    isplitl [J1'] <;> iassumption
  iapply Hk
  unfold bodyPost scr dmaZero
  isplitl [Ho]; · iexact Ho
  isplitl [Hp Heb Hsb Hsend Hrs Hag Hr]
  · isplitl [Hp]; · iexists _; iexact Hp
    isplitl [Heb]; · iexists _; iexact Heb
    isplitl [Hsb]; · iexists _; iexact Hsb
    isplitl [Hsend]; · iexact Hsend
    isplitl [Hrs]; · iexact Hrs
    isplitl [Hag]; · iexact Hag
    iexists _; iexact Hr
  isplitl [ZS0 ZS1 ZS2 YS0 YS1 YS2 ZR0 ZR1 ZR2 YR0 YR1 YR2]
  · isplitl [ZS0 ZS1 ZS2]
    · isplitl [ZS0]; · iexact ZS0
      isplitl [ZS1] <;> iassumption
    isplitl [YS0 YS1 YS2]
    · isplitl [YS0]; · iexact YS0
      isplitl [YS1] <;> iassumption
    isplitl [ZR0 ZR1 ZR2]
    · isplitl [ZR0]; · iexact ZR0
      isplitl [ZR1] <;> iassumption
    isplitl [YR0]; · iexact YR0
    isplitl [YR1] <;> iassumption
  isplitl [ZB]; · iexact ZB
  isplitl [Hx]; · iexact Hx
  isplitl [Hrw]; · iexact Hrw
  isplitl [Hix]; · iexact Hix
  isplitl [Hew]; · iexact Hew
  isplitl [Hsw]; · iexact Hsw
  iexact Hout

end Cert.KernelIdeal.MoE

end
-- ==== Proof.Launch.lean ====
/-
The four devices' launch: the pipeline's data on one device, the body's obligation, and how the semaphores' invariants, duties and
credits are dealt before the bodies start.
-/
module

public import proofs.«01_k».proof.Proof.Body

@[expose] public section

noncomputable section

namespace Cert.KernelIdeal.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

/-! ## The data -/

/-- What device `c`'s body starts from. -/
def ghost (K : Dev nD × Fin 13 → ℕ) (c : Dev nD) : sProp 𝕄 :=
  iprop((bigSep Finset.univ fun ck : Dev nD × Fin 13 => cellInv ER (rd m) (K ck) (kcell ck))
    ∗ (bigSep Finset.univ fun ck : Dev nD × Fin 13 => reached ER (kcell ck) 0)
    ∗ payToks (F := F) c ∗ poss (F := F) c)
/-- That, with what the others owe it and the levels. -/
def start (c : Dev nD) : sProp 𝕄 := iprop((∃ K, ghost m K c) ∗ credits (F := F) c ∗ levAts L lv)
/-- Before and after the kernel's one grid point. -/
def Φ₀ (c : Dev nD) : sProp 𝕄 := iprop(start m c ∗ scr (F := F) c)
/-- After the grid point: the scratch back, and every semaphore at zero. -/
def Φ₁ (c : Dev nD) : sProp 𝕄 := iprop(scr (F := F) c ∗ dmaZero (F := F) c ∗ semVal (barCell c) 0)

/-- The run's data: the arrays as they stand, the staged contents after the body, and what is owed before and after it. -/
def dats (_ : Fin 1) (c : Dev nD) : Dat τ (Elt F) Unit ℕ UU ℕ cfg0 c where
  A w := m ((cfg0.win w).arr.view.loc (c : Thread nD τ))
  after w _ := match w with
    | ⟨0, _⟩ => xS m c
    | ⟨1, _⟩ => rwS m c
    | ⟨2, _⟩ => ixS m c
    | ⟨3, _⟩ => ewS m c
    | ⟨4, _⟩ => swS m c
    | ⟨5, _⟩ => out4 m c
  Φ t := match t with
    | ⟨0, _⟩ => Φ₀ m c
    | ⟨_ + 1, _⟩ => Φ₁ c
  q _ := fullShare
  owed t := match t with
    | ⟨0, _⟩ => owe (bill c)
    | ⟨_ + 1, _⟩ => 0

/-- Owning a whole buffer with contents `X`, by its elements. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer with contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

set_option maxRecDepth 4000 in
/-- What the body is given, -/
def obPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))
/-- and what it must give back. -/
def obPost (c : Dev nD) : sProp 𝕄 :=
  iprop(Φ₁ (F := F) c ∗ (dats m 0 c).owesAt () t0_0.succ
    ∗ stg c cc0_stg0_0 (xS m c)
    ∗ stg c cc0_stg1_0 (rwS m c)
    ∗ stg c cc0_stg2_0 (ixS m c)
    ∗ stg c cc0_stg3_0 (ewS m c)
    ∗ stg c cc0_stg4_0 (swS m c)
    ∗ stg c cc0_stg5_0 (out4 m c))

set_option maxRecDepth 4000 in
/-- The body does what the pipeline asks of it. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  rw [show defs₀ (F := F) .tc 0 (t0_0, cfg0.slots t0_0) = cc0_body xM (Memref.isWhole_whole _) rwM (Memref.isWhole_whole _) ixM (Memref.isWhole_whole _) ewM (Memref.isWhole_whole _)
            swM (Memref.isWhole_whole _) outM (Memref.isWhole_whole _) pM (Memref.isWhole_whole _) ebM (Memref.isWhole_whole _)
            sbM (Memref.isWhole_whole _) sendM (Memref.isWhole_whole _) rsM (Memref.isWhole_whole _) agM (Memref.isWhole_whole _)
            rM (Memref.isWhole_whole _) cc0_scratch7 cc0_scratch8 from rfl]
  rw [show (dats m 0 c).Φ t0_0.castSucc = Φ₀ m c from rfl, show (dats m 0 c).Φ t0_0.succ = Φ₁ (F := F) c from rfl]
  rw [show (dats m 0 c).after 0 t0_0 = xS m c from by dsimp only [dats]]
  rw [show (dats m 0 c).after 1 t0_0 = rwS m c from by dsimp only [dats]]
  rw [show (dats m 0 c).after 2 t0_0 = ixS m c from by dsimp only [dats]]
  rw [show (dats m 0 c).after 3 t0_0 = ewS m c from by dsimp only [dats]]
  rw [show (dats m 0 c).after 4 t0_0 = swS m c from by dsimp only [dats]]
  rw [show (dats m 0 c).after 5 t0_0 = out4 m c from by dsimp only [dats]]
  show obPre m c ⊢ wp frame (wpE (defs₀ (F := F)) 𝒱₀ (c : Thread nD τ) none) Set.univ _ (fun _ => obPost m c)
  unfold obPre Φ₀ start ghost Dat.owesAt Pipeline.owesWithin
  rw [show (dats m 0 c).owed t0_0.castSucc = owe (bill c) from rfl]
  iintro ⟨⟨⟨⟨%K, HI, HR, Htok, Hpos⟩, Hcr, Hlev⟩, Hscr⟩, ⟨%W, %hW, HO⟩, ⟨%d0, %g0, %hg0, H0⟩, ⟨%d1, %g1, %hg1, H1⟩, ⟨%d2, %g2, %hg2, H2⟩,
    ⟨%d3, %g3, %hg3, H3⟩, ⟨%d4, %g4, %hg4, H4⟩, ⟨%d5, %g5, %hg5, H5⟩⟩
  have e0 : g0 = xS m c := by rw [hg0]; unfold Dat.before; rw [if_pos (fetch0_0 t0_0)]; rfl
  have e1 : g1 = rwS m c := by rw [hg1]; unfold Dat.before; rw [if_pos (fetch0_1 t0_0)]; rfl
  have e2 : g2 = ixS m c := by rw [hg2]; unfold Dat.before; rw [if_pos (fetch0_2 t0_0)]; rfl
  have e3 : g3 = ewS m c := by rw [hg3]; unfold Dat.before; rw [if_pos (fetch0_3 t0_0)]; rfl
  have e4 : g4 = swS m c := by rw [hg4]; unfold Dat.before; rw [if_pos (fetch0_4 t0_0)]; rfl
  subst e0 e1 e2 e3 e4
  iapply (body m K c g5 fun _ => obPost m c)
  isplitl [HI HR Htok Hpos Hcr Hlev Hscr HO H0 H1 H2 H3 H4 H5]
  · unfold bodyPre facts due
    isplitl [HI HR Hlev]
    · isplitl [HI]; · iexact HI
      isplitl [HR] <;> iassumption
    isplitl [HO]; · iexists W; iexact HO
    isplitl [Htok]; · iexact Htok
    isplitl [Hpos]; · iexact Hpos
    isplitl [Hcr]; · iexact Hcr
    isplitl [Hscr]; · iexact Hscr
    isplitl [H0]; · iexact H0
    isplitl [H1]; · iexact H1
    isplitl [H2]; · iexact H2
    isplitl [H3]; · iexact H3
    isplitl [H4]; · iexact H4
    iexact H5
  · unfold bodyPost obPost Φ₁ due Dat.owesAt Pipeline.owesWithin
    rw [show (dats m 0 c).owed t0_0.succ = 0 from rfl]
    iintro ⟨⟨%W', HO⟩, Hscr, Hz, HB, H0, H1, H2, H3, H4, H5⟩
    isplitl [Hscr Hz HB]
    · isplitl [Hscr]; · iexact Hscr
      isplitl [Hz] <;> iassumption
    isplitl [HO]
    · iexists W'
      isplitr; · ipureintro; exact fun _ _ => Or.inl trivial
      iexact HO
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    isplitl [H3]
    · iexists _; isplitr; · (ipureintro; rfl)
      iexact H3
    isplitl [H4]
    · iexists _; isplitr; · (ipureintro; rfl)
      iexact H4
    iexists _; isplitr; · (ipureintro; rfl)
    iexact H5

/-! ## Dealing -/

/-- The kernel's own transfer semaphores. -/
abbrev osem : Fin 12 → SemLoc sig := fun k => .dma (dq k)
/-- They are the kernel's own, each once. -/
theorem ownSemFacts : Pipeline.OwnSemFacts cfg0.spec osem := by decide

/-- Every array is held whole. -/
theorem share_eq (c : Dev nD) (w : Fin cfg0.W) : (dats m 0 c).share w = fullShare := by unfold Dat.share; split <;> rfl

/-- Different numbers are different semaphores; -/
theorem csem_injective : Function.Injective csem := by decide +kernel
/-- and different cells. -/
theorem kcell_injective : Function.Injective kcell := by
  rintro ⟨c, k⟩ ⟨c', k'⟩ h
  have h1 : c = c' := by have := congrArg (fun g : GSem nD τ sig => g.1.1) h; exact this
  subst h1
  have h2 : csem k = csem k' := congrArg Prod.snd h
  rw [csem_injective h2]
/-- All devices' cells. -/
def ringCells : Finset (GSem nD τ sig) := Finset.univ.map ⟨kcell, kcell_injective⟩

/-- A device's own cells' duties: the three of its barrier cell, the one of each transfer cell. -/
def tokOf (cj : Dev nD × (Fin 3 ⊕ Fin 12)) : GSem nD τ sig × ℕ × Fin 3 := match cj.2 with
  | .inl s => (barCell cj.1, 0, s)
  | .inr k => (dCell cj.1 k, 0, 0)
/-- Different duties are different. -/
theorem tokOf_injective : Function.Injective tokOf := by
  rintro ⟨c, j⟩ ⟨c', j'⟩ h
  have h1 : c = c' := by
    have := congrArg (fun x : GSem nD τ sig × ℕ × Fin 3 => x.1.1.1) h
    rcases j with j | j <;> rcases j' with j' | j' <;> exact this
  subst h1
  rcases j with j | j <;> rcases j' with j' | j'
  · have h2 : j = j' := congrArg (fun x : GSem nD τ sig × ℕ × Fin 3 => x.2.2) h
    rw [h2]
  · have h2 : (SemLoc.reg barS : SemLoc sig) = .dma (dq j') := congrArg (fun x : GSem nD τ sig × ℕ × Fin 3 => x.1.2) h
    cases h2
  · have h2 : (SemLoc.dma (dq j) : SemLoc sig) = .reg barS := congrArg (fun x : GSem nD τ sig × ℕ × Fin 3 => x.1.2) h
    cases h2
  · have h2 : (SemLoc.dma (dq j) : SemLoc sig) = .dma (dq j') := congrArg (fun x : GSem nD τ sig × ℕ × Fin 3 => x.1.2) h
    have h3 : 6 + j.val = 6 + j'.val := congrArg Fin.val (SemLoc.dma.inj h2)
    rw [Fin.ext (Nat.add_left_cancel h3)]
/-- All devices' duties. -/
def ringToks : Finset (GSem nD τ sig × ℕ × Fin 3) := Finset.univ.map ⟨tokOf, tokOf_injective⟩

/-- The bookkeeping at the start. -/
def u₀ : UU :=
  (initOf (Pipeline.cells cfgs cellOf_inj) (Pipeline.launchToks cfgs cellOf_inj), initOf ringCells ringToks)

/-- Twelve of a kind, phase by phase. -/
abbrev twelve (Φ : Fin 12 → sProp 𝕄) : sProp 𝕄 :=
  iprop(three (fun s => Φ (snd0 s)) ∗ three (fun s => Φ (snd1 s)) ∗ three (fun s => Φ (rcv0 s)) ∗ three (fun s => Φ (rcv1 s)))

/-- A separating product over twelve cells, phase by phase. -/
theorem bigSep_fin12 (Φ : Fin 12 → sProp 𝕄) : bigSep Finset.univ Φ = twelve Φ := by
  rw [bigSep_univ_eq_bigSepL [0, 1, 2, 3, 4, 5, 6, 7, 8, 9, 10, 11] (by decide) (by decide) Φ]
  refine (BI.Entails.antisymm (show iprop(Φ 0 ∗ Φ 1 ∗ Φ 2 ∗ Φ 3 ∗ Φ 4 ∗ Φ 5 ∗ Φ 6 ∗ Φ 7 ∗ Φ 8 ∗ Φ 9 ∗ Φ 10 ∗ Φ 11) ⊢ iprop((Φ 0 ∗ Φ 1 ∗ Φ 2) ∗ (Φ 3 ∗ Φ 4 ∗ Φ 5) ∗ (Φ 6 ∗ Φ 7 ∗ Φ 8) ∗ (Φ 9 ∗ Φ 10 ∗ Φ 11)) from ?_) (show iprop((Φ 0 ∗ Φ 1 ∗ Φ 2) ∗ (Φ 3 ∗ Φ 4 ∗ Φ 5) ∗ (Φ 6 ∗ Φ 7 ∗ Φ 8) ∗ (Φ 9 ∗ Φ 10 ∗ Φ 11)) ⊢ iprop(Φ 0 ∗ Φ 1 ∗ Φ 2 ∗ Φ 3 ∗ Φ 4 ∗ Φ 5 ∗ Φ 6 ∗ Φ 7 ∗ Φ 8 ∗ Φ 9 ∗ Φ 10 ∗ Φ 11) from ?_))
  · iintro ⟨H0, H1, H2, H3, H4, H5, H6, H7, H8, H9, H10, H11⟩
    isplitl [H0 H1 H2]
    · isplitl [H0]; · iexact H0
      isplitl [H1] <;> iassumption
    isplitl [H3 H4 H5]
    · isplitl [H3]; · iexact H3
      isplitl [H4] <;> iassumption
    isplitl [H6 H7 H8]
    · isplitl [H6]; · iexact H6
      isplitl [H7] <;> iassumption
    isplitl [H9]; · iexact H9
    isplitl [H10] <;> iassumption
  · iintro ⟨⟨H0, H1, H2⟩, ⟨H3, H4, H5⟩, ⟨H6, H7, H8⟩, ⟨H9, H10, H11⟩⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- One over thirteen: the barrier cell and the twelve. -/
theorem bigSep_fin13 (Φ : Fin 13 → sProp 𝕄) : bigSep Finset.univ Φ = iprop(Φ 0 ∗ twelve fun k => Φ k.succ) := by
  rw [← bigSep_fin12, bigSep_univ_eq_bigSepL [0, 1, 2, 3, 4, 5, 6, 7, 8, 9, 10, 11, 12] (by decide) (by decide) Φ,
    bigSep_univ_eq_bigSepL [0, 1, 2, 3, 4, 5, 6, 7, 8, 9, 10, 11] (by decide) (by decide) (fun k : Fin 12 => Φ k.succ)]
  rfl

/-- One over a device's duties. -/
theorem bigSep_duties (Φ : Fin 3 ⊕ Fin 12 → sProp 𝕄) :
    bigSep Finset.univ Φ = iprop(three (fun s => Φ (.inl s)) ∗ twelve fun k => Φ (.inr k)) := by
  rw [← bigSep_fin12, bigSep_univ_eq_bigSepL [.inl 0, .inl 1, .inl 2, .inr 0, .inr 1, .inr 2, .inr 3, .inr 4, .inr 5, .inr 6, .inr 7, .inr 8,
      .inr 9, .inr 10, .inr 11] (by decide) (by decide) Φ,
    bigSep_univ_eq_bigSepL [0, 1, 2, 3, 4, 5, 6, 7, 8, 9, 10, 11] (by decide) (by decide) (fun k : Fin 12 => Φ (.inr k))]
  have e1 : iprop(Φ (.inl 0) ∗ Φ (.inl 1) ∗ Φ (.inl 2) ∗ bigSepL [0, 1, 2, 3, 4, 5, 6, 7, 8, 9, 10, 11] (fun k : Fin 12 => Φ (.inr k))) ⊢ iprop(three (fun s => Φ (.inl s)) ∗ bigSepL [0, 1, 2, 3, 4, 5, 6, 7, 8, 9, 10, 11] (fun k : Fin 12 => Φ (.inr k))) := by
    iintro ⟨H0, H1, H2, H⟩
    isplitr [H]
    · isplitl [H0]; · iexact H0
      isplitl [H1] <;> iassumption
    iexact H
  have e2 : iprop(three (fun s => Φ (.inl s)) ∗ bigSepL [0, 1, 2, 3, 4, 5, 6, 7, 8, 9, 10, 11] (fun k : Fin 12 => Φ (.inr k))) ⊢ iprop(Φ (.inl 0) ∗ Φ (.inl 1) ∗ Φ (.inl 2) ∗ bigSepL [0, 1, 2, 3, 4, 5, 6, 7, 8, 9, 10, 11] (fun k : Fin 12 => Φ (.inr k))) := by
    iintro ⟨⟨H0, H1, H2⟩, H⟩
    isplitl [H0]; · iexact H0
    isplitl [H1]; · iexact H1
    isplitl [H2] <;> iassumption
  exact BI.Entails.antisymm e1 e2

/-- The duties of device `c`'s own cells. -/
def toks (c : Dev nD) : sProp 𝕄 :=
  iprop(three (fun s => dutyTok ER (barCell c) 0 s) ∗ twelve fun k => dutyTok ER (dCell c k) 0 0)

/-- What the launch deals device `c`, and what becomes of it once the invariants are in place. -/
def G (c : Dev nD) : sProp 𝕄 :=
  iprop((bigSep Finset.univ fun k : Fin 13 => roundState ER (rd m) (kcell (c, k)) 0)
    ∗ (bigSep Finset.univ fun k : Fin 13 => iprop(atPos ER (kcell (c, k)) 0 ∅ 0 ∗ reached ER (kcell (c, k)) 0)) ∗ toks (F := F) c)
/-- A device's share of the bookkeeping after the launch. -/
def G' (c : Dev nD) : sProp 𝕄 := iprop(∃ K, ghost m K c)

/-- The bookkeeping at the start is dealt out to the devices. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => by unfold toks; rw [bigSep_duties]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero are the twelve; -/
theorem ownSems0_eq (c : Dev nD) : (Pipeline.ownSems0 (Ix := Unit) (Name := ℕ) (U := UU) (Lvl := ℕ) (Val := Elt F) (τ := τ) osem c : sProp 𝕄)
    = dmaZero (F := F) c := by
  unfold Pipeline.ownSems0; rw [bigSep_fin12]; rfl
/-- the other one is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together they are the thirteen cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [bigSep_fin13, ← bigSep_fin12, unscopedSems0_eq]
  simp only [kcell_dma, kcell_bar]
  unfold Pipeline.ownSems0
  iintro ⟨H, HB⟩
  isplitl [HB] <;> iassumption

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The devices, each sent to the one that writes its slot `s`. -/
def srcE (s : Fin 3) : Dev nD ≃ Dev nD := ⟨src s, dst s, dst_src s, src_dst s⟩

/-- Every duty to the device that pays it: a barrier's duty and an arrival's to the peers, a departure's stays. -/
theorem toks_around : (bigSep Finset.univ fun c : Dev nD => (toks (F := F) c : sProp 𝕄)) ⊢ bigSep Finset.univ fun c : Dev nD => payToks (F := F) c := by
  have hb (s : Fin 3) := bigSep_univ_equiv (srcE s) (fun c : Dev nD => (dutyTok ER (barCell c) 0 s : sProp 𝕄))
  have h0 (s : Fin 3) := bigSep_univ_equiv (srcE s).symm (fun c : Dev nD => (dutyTok ER (dCell c (rcv0 s)) 0 0 : sProp 𝕄))
  have h1 (s : Fin 3) := bigSep_univ_equiv (srcE s).symm (fun c : Dev nD => (dutyTok ER (dCell c (rcv1 s)) 0 0 : sProp 𝕄))
  unfold toks payToks
  simp only [bigSep_sep']
  rw [hb 0, hb 1, hb 2, h0 0, h0 1, h0 2, h1 0, h1 1, h1 2]
  iintro ⟨HB, HS, HU, HR, HV⟩
  isplitl [HB]; · iexact HB
  isplitl [HS]; · iexact HS
  isplitl [HR]; · iexact HR
  isplitl [HU]; · iexact HU
  iexact HV

/-- A fact that can be used any number of times may be used in every factor. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All the cells' invariants and first rounds. -/
def records (K : Dev nD × Fin 13 → ℕ) : sProp 𝕄 :=
  iprop((bigSep Finset.univ fun ck : Dev nD × Fin 13 => cellInv ER (rd m) (K ck) (kcell ck))
    ∗ bigSep Finset.univ fun ck : Dev nD × Fin 13 => reached ER (kcell ck) 0)
/-- They can be used any number of times. -/
instance records_persistent (K : Dev nD × Fin 13 → ℕ) : BI.Persistent (records m K) := by unfold records; infer_instance

/-- With them a device's positions and duties make up its share. -/
theorem ghost_intro (K : Dev nD × Fin 13 → ℕ) (c : Dev nD) : iprop(records m K ∗ (poss (F := F) c ∗ payToks (F := F) c)) ⊢ G' m c := by
  unfold records G' ghost
  iintro ⟨⟨HI, HR⟩, Hp, Ht⟩
  iexists K
  isplitl [HI]; · iexact HI
  isplitl [HR]; · iexact HR
  isplitl [Ht] <;> iassumption

/-- A device's positions, cell by cell. -/
theorem poss_eq (c : Dev nD) : (bigSep Finset.univ fun k : Fin 13 => (atPos ER (kcell (c, k)) 0 ∅ 0 : sProp 𝕄)) = poss (F := F) c := by
  rw [bigSep_fin13]
  simp only [kcell_dma, kcell_bar]
  rfl

/-- The duties dealt by owner are regrouped by payer. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Fin 13 => iprop(∃ κ : ℕ, cellInv ER (rd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄)),
    bigSep_congr (s := Finset.univ) (fun (c : Dev nD) _ => poss_eq (F := F) c)]
  iintro ⟨HI, ⟨Hat, #HR⟩, Htok⟩
  ihave HK := (BI.bigSep_exists_pi Finset.univ (fun (ck : Dev nD × Fin 13) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (poss (F := F)) (payToks (F := F))).symm)
    isplitl [Hat]; · iexact Hat
    iexact Htk

/-- The launch as a whole: from semaphores at zero to every device's share. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What the devices owe by a list is what they owe by its first entry and by the rest. -/
theorem credit_cons (x : Dev nD → GSem nD τ sig × ℕ) (l : Dev nD → List (GSem nD τ sig × ℕ)) (c : Dev nD) :
    (Pipeline.launchCred (fun d => owe (x d :: l d)) c : sProp 𝕄)
      = iprop(Pipeline.launchCred (fun d => owe (l d)) c ∗ Pipeline.launchCred (fun d => tallyAt (x d).1 () (x d).2) c) :=
  Pipeline.launchCred_add (fun d => owe (l d)) (fun d => tallyAt (x d).1 () (x d).2) c

/-- What the devices owe in signals of slot `s` is, for `c`, one unit on its barrier cell; -/
theorem credit_bar (s : Fin 3) (c : Dev nD) :
    (Pipeline.launchCred (fun d => tallyAt (barCell (src s d)) () 1) c : sProp 𝕄) ⊢ cred (tallyAt (barCell c) () 1) :=
  Pipeline.launchCred_tallyAt (.reg barS) (src s) (dst s) (src_dst s) (dst_src s) () 1 c
/-- what they owe in copies on cell `k` is, for `c`, a block's credit on that cell. -/
theorem credit_dma (s : Fin 3) (k : Fin 12) (c : Dev nD) :
    (Pipeline.launchCred (fun d => tallyAt (dCell (dst s d) k) () N) c : sProp 𝕄) ⊢ cred (tallyAt (dCell c k) () N) :=
  Pipeline.launchCred_tallyAt (.dma (dq k)) (dst s) (src s) (dst_src s) (src_dst s) () N c

/-- All that is owed is, for `c`, its credits. -/
theorem creds (c : Dev nD) : (Pipeline.launchCred (fun d => owe (bill d)) c : sProp 𝕄) ⊢ credits (F := F) c := by
  unfold bill bill0 bill1
  rw [credit_cons, credit_cons, credit_cons, credit_cons, credit_cons, credit_cons, credit_cons, credit_cons, credit_cons]
  unfold credits
  iintro ⟨⟨⟨⟨⟨⟨⟨⟨⟨-, V0⟩, V2⟩, V1⟩, R0⟩, R2⟩, R1⟩, B2⟩, B1⟩, B0⟩
  ihave B0' := (credit_bar (F := F) 0 c) $$ B0
  ihave B1' := (credit_bar (F := F) 1 c) $$ B1
  ihave B2' := (credit_bar (F := F) 2 c) $$ B2
  isplitl [B0' B1' B2']
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [B0']; · iexact B0'
    iapply (cred_add _ _).2
    isplitl [B1'] <;> iassumption
  isplitl [R0 R1 R2]
  · isplitl [R0]; · iapply (credit_dma (F := F) 0 (rcv0 0) c); iexact R0
    isplitl [R1]; · iapply (credit_dma (F := F) 1 (rcv0 1) c); iexact R1
    iapply (credit_dma (F := F) 2 (rcv0 2) c); iexact R2
  isplitl [V0]; · iapply (credit_dma (F := F) 0 (rcv1 0) c); iexact V0
  isplitl [V1]; · iapply (credit_dma (F := F) 1 (rcv1 1) c); iexact V1
  iapply (credit_dma (F := F) 2 (rcv1 2) c); iexact V2

end Cert.KernelIdeal.MoE

end
-- ==== Proof.Run.lean ====
/-
The run of the four devices: it ends, every array but the result holds what it held, every semaphore is at zero, and each device's
result array holds what its body stored.
-/
module

public import proofs.«01_k».proof.Proof.Launch
public import Idealize.ShloMosaic.Lib.Pipeline.CollectiveSegs

@[expose] public section

noncomputable section

namespace Cert.KernelIdeal.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ)

variable (ρ : Dev nD → PrngReg)

/-- What the launch leaves a device is what its body starts from. -/
theorem start_intro (c : Dev nD) :
    iprop(Pipeline.unscopedRestP Pipeline.Prefetch.none cfg0.spec c (fun b => m ((c : Thread nD τ).loc b)) ∗ levAts L lv
        ∗ Pipeline.launchCred (fun d => owe (bill d)) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- With the scratch it is the state before the grid point. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

/-- The state after the grid point gives the scratch and the semaphores back. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq, ownSems0_eq, unscopedSems0_eq]
  unfold Φ₁ scr
  iintro ⟨Hr, Hz, HB⟩
  isplitl [HB]; · iexact HB
  isplitl [Hz] <;> iassumption

/-- The pipeline's own waits are below all that is owed. -/
theorem waits (c : Dev nD) : (levAts L lv : sProp 𝕄) ⊢ Pipeline.cellsWaits cfgs (dats m) () 0 c :=
  Pipeline.cellsWaits_intro cfgs (dats m) () 0 c fun w s t => by
    have hz : lv ((c : Thread nD τ), .dma (((cfg0.win w).sem s))) () = 0 := by fin_cases w <;> fin_cases s <;> rfl
    rcases t with ⟨_ | _, ht⟩
    · exact mayWait_list c _ (bill c) fun x hx => ⟨(bill_lv c x hx).1, by rw [hz]; exact (bill_lv c x hx).2⟩
    · exact (show (levAts L lv : sProp 𝕄) ⊢ MayWait (c : Thread nD τ) _ () 0 from by rw [MayWait_zero]; iintro -; iempintro)

/-- The devices at the start: memory `m`, semaphores at zero. -/
def s₀ : MemSt nD τ sig (Elt F) := ⟨m, fun _ => 0, ρ⟩

/-- Array `w` of device `c` at the end. -/
def finalA (c : Dev nD) (w : Fin cfg0.W) : Buf (Elt F) ((cfg0.win w).arr.view.loc (c : Thread nD τ)) := (dats m 0 c).arrAt w cfg0.N

/-- Every array of every device is at its contents at the end. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero semaphores, for any float values: every weakly fair execution of the four devices terminates, and in every
    final state each device's result array is at the computed contents, its other arrays are unchanged and every semaphore is at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owe (bill d)) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The five argument arrays after the run hold what they held. -/
theorem finalA_0 (c : Dev nD) : finalA m c (0 : Fin 6) = m (win0_0.arr.view.loc (c : Thread nD τ)) := (dats (F := F) m 0 c).arrAt_in (0 : Fin 6) rfl _
/-- The router matrix ends unchanged; -/
theorem finalA_1 (c : Dev nD) : finalA m c (1 : Fin 6) = m (win0_1.arr.view.loc (c : Thread nD τ)) := (dats (F := F) m 0 c).arrAt_in (1 : Fin 6) rfl _
/-- the expert numbers too; -/
theorem finalA_2 (c : Dev nD) : finalA m c (2 : Fin 6) = m (win0_2.arr.view.loc (c : Thread nD τ)) := (dats (F := F) m 0 c).arrAt_in (2 : Fin 6) rfl _
/-- the expert matrices; -/
theorem finalA_3 (c : Dev nD) : finalA m c (3 : Fin 6) = m (win0_3.arr.view.loc (c : Thread nD τ)) := (dats (F := F) m 0 c).arrAt_in (3 : Fin 6) rfl _
/-- the shared matrix. -/
theorem finalA_4 (c : Dev nD) : finalA m c (4 : Fin 6) = m (win0_4.arr.view.loc (c : Thread nD τ)) := (dats (F := F) m 0 c).arrAt_in (4 : Fin 6) rfl _

end Cert.KernelIdeal.MoE

end
-- ==== Proof.Same.lean ====
/-
The kernel and its idealization are one program text, so their tables of bodies are equal.
-/
module

public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

/-- The kernel's one body under its label is the idealization's. -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  congr 1
  funext l x
  rcases l with ⟨_ | l, h⟩
  · rfl
  · exact absurd h (Nat.not_lt.2 (Nat.le_add_left _ _))

/-- The whole table, the pipeline's bodies included, likewise. -/
theorem defs_eq : @Cert.Kernel.defs F _ Cert.Kernel.Gen.facts = @Cert.KernelIdeal.defs F _ Cert.KernelIdeal.Gen.facts := by
  unfold Cert.Kernel.defs Cert.KernelIdeal.defs
  rw [defs₀_eq]
  rfl

end Cert.Same

end
-- ==== Proof.Math.lean ====
/-
The arithmetic of the extended reals that joins the two programs: probabilities made of real scores are real and not negative, such a
factor passes out of a sum, and the eight experts' masked terms add up to the chosen expert's product alone.
-/
module

public import Idealize.ShloMosaic.Lib.Pointwise

@[expose] public section

noncomputable section

namespace Cert.Moe

open Idealize.ShloMosaic

/-- The largest of eight scores. -/
def peak (s : Fin 8 → EReal) : EReal := Finset.fold max (Ideal.ofBits .f32 0xFF800000#32) s Finset.univ

/-- The probability of expert `e` under the scores `s`: its exponential, taken from the largest score, over the sum of all. -/
def prob (s : Fin 8 → EReal) (e : Fin 8) : EReal := Ideal.div (Ideal.exp (s e - peak s)) (∑ a, Ideal.exp (s a - peak s))

/-- The probability of the expert a row names, and zero where it names none. -/
def chosen (s : Fin 8 → EReal) (i : BitVec 32) : EReal := ∑ e : Fin 8, if i = BitVec.ofNat 32 e.val then prob s e else 0

/-- The largest score is one of the eight. -/
theorem peak_attained (s : Fin 8 → EReal) : ∃ e, peak s = s e := by
  obtain ⟨e, -, he⟩ := Finset.exists_mem_eq_sup (Finset.univ : Finset (Fin 8)) ⟨0, Finset.mem_univ _⟩ s
  refine ⟨e, he ▸ ?_⟩
  have hb : Ideal.ofBits .f32 0xFF800000#32 = (⊥ : EReal) := by simp [Ideal.ofBits, Ideal.ieee]
  unfold peak
  rw [hb]
  rfl

/-- A finite sum of reals is the real sum. -/
theorem real_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- Real scores make a real probability that is not negative. -/
theorem prob_real (s : Fin 8 → EReal) (hs : ∀ e, ∃ a : ℝ, s e = (a : EReal)) (e : Fin 8) : 0 ≤ prob s e ∧ prob s e ≠ ⊤ := by
  choose a ha using hs
  obtain ⟨e₀, h₀⟩ := peak_attained s
  have hx : ∀ b, Ideal.exp (s b - peak s) = ((Real.exp (a b - a e₀) : ℝ) : EReal) := fun b => by
    rw [h₀, ha, ha, ← EReal.coe_sub]; rfl
  have hsum : (∑ b, Ideal.exp (s b - peak s)) = ((∑ b, Real.exp (a b - a e₀) : ℝ) : EReal) := by
    rw [Finset.sum_congr rfl fun b _ => hx b, real_sum]
  have hpos : 0 < ∑ b, Real.exp (a b - a e₀) := Finset.sum_pos (fun b _ => Real.exp_pos _) ⟨0, Finset.mem_univ _⟩
  unfold prob
  rw [hsum, hx, Ideal.div, if_neg (by exact_mod_cast hpos.ne')]
  rw [← EReal.coe_inv, ← EReal.coe_mul]
  exact ⟨by exact_mod_cast (by positivity), EReal.coe_ne_top _⟩

/-- A real factor that is not negative passes out of a sum. -/
theorem mul_sum {ι : Type} (p : EReal) (h0 : 0 ≤ p) (ht : p ≠ ⊤) (S : Finset ι) (f : ι → EReal) : ∑ k ∈ S, p * f k = p * ∑ k ∈ S, f k := by
  classical
  induction S using Finset.induction_on with
  | empty => simp
  | insert k S hk ih => rw [Finset.sum_insert hk, Finset.sum_insert hk, ih, EReal.left_distrib_of_nonneg_of_ne_top h0 ht]

/-- Expert numbers below eight are equal as words only when they are equal. -/
theorem name_inj : ∀ a b : Fin 8, (BitVec.ofNat 32 a.val = BitVec.ofNat 32 b.val) ↔ a = b := by decide

/-- Where the row names expert `e`, the probability taken is that expert's. -/
theorem chosen_of (s : Fin 8 → EReal) (e : Fin 8) : chosen s (BitVec.ofNat 32 e.val) = prob s e := by
  unfold chosen
  simp only [name_inj, Finset.sum_ite_eq, Finset.mem_univ, if_true]

/-- The masked terms of the eight experts add up to the chosen expert's probability times its product, and to zero where the row names none. -/
theorem routed (s : Fin 8 → EReal) (hs : ∀ e, ∃ a : ℝ, s e = (a : EReal)) (i : BitVec 32) (x : Fin 256 → EReal) (w : Fin 8 → Fin 256 → EReal) :
    (∑ e : Fin 8, ∑ k : Fin 256, if i = BitVec.ofNat 32 e.val then x k * chosen s i * w e k else 0)
      = ∑ e : Fin 8, if i = BitVec.ofNat 32 e.val then prob s e * ∑ k : Fin 256, x k * w e k else 0 := by
  refine Finset.sum_congr rfl fun e _ => ?_
  by_cases h : i = BitVec.ofNat 32 e.val
  · simp only [if_pos h]
    obtain ⟨h0, ht⟩ := prob_real s hs e
    rw [h, chosen_of, ← mul_sum _ h0 ht]
    exact Finset.sum_congr rfl fun k _ => by rw [mul_comm (x k), mul_assoc]
  · simp only [if_neg h, Finset.sum_const_zero]

end Cert.Moe

end
-- ==== Proof.Block.lean ====
/-
What one device computes, row by row: the chosen expert's probability, its own two experts' part of the routed sum, and the shared product.
-/
module

public import proofs.«01_k».proof.Proof.Values
public import proofs.«01_k».proof.Proof.Math

@[expose] public section

set_option maxRecDepth 16384

noncomputable section

namespace Cert.KernelIdeal.MoE

open Cert.KernelIdeal Cert.KernelIdeal.Gen Cert.Moe
open Idealize.ShloMosaic Idealize.ShloMosaic.TcCoe

variable (m : (ℓ : Loc nD τ sig) → Buf (Elt Ideal) ℓ)

/-- The arguments of device `c`, by coordinates. -/
def aX (c : Dev nD) (r : Fin 512) (k : Fin 256) : EReal := m ((c : Thread nD τ).loc main_arg0) (ix2 r k)
/-- The router matrix. -/
def aR (c : Dev nD) (k : Fin 256) (e : Fin 8) : EReal := m ((c : Thread nD τ).loc main_arg1) (ix2 k e)
/-- The expert numbers. -/
def aI (c : Dev nD) (r : Fin 512) : BitVec 32 := m ((c : Thread nD τ).loc main_arg2) (ix2 r 0)
/-- The two expert matrices. -/
def aE (c : Dev nD) (j : Fin 2) (k : Fin 256) (h : Fin 512) : EReal := m ((c : Thread nD τ).loc main_arg3) (ix3 j k h)
/-- The shared matrix. -/
def aS (c : Dev nD) (k : Fin 256) (h : Fin 512) : EReal := m ((c : Thread nD τ).loc main_arg4) (ix2 k h)

/-- The scores of row `r`. -/
def scores (c : Dev nD) (r : Fin 512) (e : Fin 8) : EReal := ∑ k : Fin 256, aX m c r k * aR m c k e

/-- Device `c`'s two experts' part of the routed sum at row `r` and column `h`. -/
def part (c : Dev nD) (r h : Fin 512) : EReal :=
  (∑ k : Fin 256, if aI m c r = BitVec.ofNat 32 (2 * c.val) then aX m c r k * chosen (scores m c r) (aI m c r) * aE m c 0 k h else 0)
    + ∑ k : Fin 256, if aI m c r = BitVec.ofNat 32 (2 * c.val + 1) then aX m c r k * chosen (scores m c r) (aI m c r) * aE m c 1 k h else 0

/-- The staged arguments are the arguments. -/
theorem xS_eq (c : Dev nD) : xS m c = m ((c : Thread nD τ).loc main_arg0) :=
  Memref.read_access_unit_zero (Elt Ideal) main_arg0 (funext fun a => by fin_cases a <;> decide) (fun a => by fin_cases a <;> decide) _
/-- The staged router matrix is the argument; -/
theorem rwS_eq (c : Dev nD) : rwS m c = m ((c : Thread nD τ).loc main_arg1) :=
  Memref.read_access_unit_zero (Elt Ideal) main_arg1 (funext fun a => by fin_cases a <;> decide) (fun a => by fin_cases a <;> decide) _
/-- so are the expert numbers; -/
theorem ixS_eq (c : Dev nD) : ixS m c = m ((c : Thread nD τ).loc main_arg2) :=
  Memref.read_access_unit_zero (Elt Ideal) main_arg2 (funext fun a => by fin_cases a <;> decide) (fun a => by fin_cases a <;> decide) _
/-- the expert matrices; -/
theorem ewS_eq (c : Dev nD) : ewS m c = m ((c : Thread nD τ).loc main_arg3) :=
  Memref.read_access_unit_zero (Elt Ideal) main_arg3 (funext fun a => by fin_cases a <;> decide) (fun a => by fin_cases a <;> decide) _
/-- and the shared matrix. -/
theorem swS_eq (c : Dev nD) : swS m c = m ((c : Thread nD τ).loc main_arg4) :=
  Memref.read_access_unit_zero (Elt Ideal) main_arg4 (funext fun a => by fin_cases a <;> decide) (fun a => by fin_cases a <;> decide) _

/-- A choice by the equality of two words. -/
theorem sel_eq (a b : BitVec 32) (x y : EReal) : Scalar.select (IntOp.cmpi .eq a b) x y = if a = b then x else y := by
  by_cases h : a = b
  · rw [if_pos h, h]; simp [IntOp.cmpi, Scalar.select]
  · rw [if_neg h]; simp [IntOp.cmpi, Scalar.select, beq_eq_false_iff_ne.2 h]

/-- The masked products of one block of rows. -/
theorem pay6_apply (c : Dev nD) (x : FVec Ideal S128x256 .f32) (ix : IVec S128x1 32) (p : FVec Ideal S128x1 .f32) (a b : FVec Ideal S1x256x512 .bf16) (r : Fin 128) (h : Fin 512) :
    k0_pay6 (F := Ideal) (word c) x ix p a b (ix2 r h)
      = (∑ k : Fin 256, if ix (ix2 r 0) = BitVec.ofNat 32 (2 * c.val) then x (ix2 r k) * p (ix2 r 0) * a (ix3 0 k h) else 0)
        + ∑ k : Fin 256, if ix (ix2 r 0) = BitVec.ofNat 32 (2 * c.val + 1) then x (ix2 r k) * p (ix2 r 0) * b (ix3 0 k h) else 0 := by
  pointwise [k0_pay6]
  have h0 : Scalar.addi (Scalar.muli (word c) 2#32) 0#32 = BitVec.ofNat 32 (2 * c.val) := by revert c; decide
  have h1 : Scalar.addi (Scalar.muli (word c) 2#32) 1#32 = BitVec.ofNat 32 (2 * c.val + 1) := by revert c; decide
  simp only [h0, h1, sel_eq]

/-- The same for the block a device keeps. -/
theorem pay20_apply (c : Dev nD) (x : FVec Ideal S128x256 .f32) (ix : IVec S128x1 32) (p : FVec Ideal S128x1 .f32) (a b : FVec Ideal S1x256x512 .bf16) (r : Fin 128) (h : Fin 512) :
    k0_pay20 (F := Ideal) (word c) (k0_pay15 x) (k0_pay16 (F := Ideal) ix) p (k0_pay17 (F := Ideal)) (k0_pay18 (word c) x ix p) (k0_pay19 a)
        (constant S128x512 .f32 0x00000000#32) b (ix2 r h)
      = (∑ k : Fin 256, if ix (ix2 r 0) = BitVec.ofNat 32 (2 * c.val) then x (ix2 r k) * p (ix2 r 0) * a (ix3 0 k h) else 0)
        + ∑ k : Fin 256, if ix (ix2 r 0) = BitVec.ofNat 32 (2 * c.val + 1) then x (ix2 r k) * p (ix2 r 0) * b (ix3 0 k h) else 0 := by
  pointwise [k0_pay20, k0_pay15, k0_pay16, k0_pay17, k0_pay18, k0_pay19]
  have h0 : Scalar.addi (Scalar.muli (word c) 2#32) 0#32 = BitVec.ofNat 32 (2 * c.val) := by revert c; decide
  have h1 : Scalar.addi (Scalar.muli (word c) 2#32) 1#32 = BitVec.ofNat 32 (2 * c.val + 1) := by revert c; decide
  simp only [h0, h1, sel_eq]

/-- The column of chosen probabilities. -/
theorem pay5_apply (x : FVec Ideal S512x256 .f32) (rW : FVec Ideal S256x8 .f32) (ix : IVec S512x1 32) (r : Fin 512) :
    k0_pay5 (F := Ideal) (k0_pay1 x) rW ix (ix2 r 0) = chosen (fun e => ∑ k : Fin 256, x (ix2 r k) * rW (ix2 k e)) (ix (ix2 r 0)) := by
  pointwise [k0_pay5, k0_pay1]
  simp only [sel_eq, chosen, prob, peak, eq_comm]

/-- Row `a` of block `q`. -/
def row (q : Fin 4) (a : Fin 128) : Fin 512 := ⟨128 * q.val + a.val, by omega⟩
/-- The block `i + 1` places after device `c`'s own. -/
def blk (c : Dev nD) (i : Fin 3) : Fin 4 := ⟨(c.val + i.val + 1) % 4, Nat.mod_lt _ (by decide)⟩

/-- A load of 128 rows of `x` from row `128 q` on. -/
theorem x_rows (f : (cc0_stg0_0 : Ref sig .tc).ty.Contents (Elt Ideal)) (q : Fin 4) {off : Fin 2 → ℕ} (inb) (ho : off = ![128 * q.val, 0]) (a : Fin 128) (k : Fin 256) :
    xM.view.readAt (Elt Ideal) (Rect.unit (s := S512x256) off S128x256.size inb).toLoadRect f (ix2 a k) = f (ix2 (row q a) k) := by
  subst ho
  refine congrArg f (funext fun b => Fin.ext ?_)
  match b with
  | ⟨0, _⟩ => show 128 * q.val + 1 * a.val = 128 * q.val + a.val; omega
  | ⟨1, _⟩ => show 0 + 1 * k.val = k.val; omega

/-- The same rows of the column of expert numbers. -/
theorem i_rows (f : (cc0_stg2_0 : Ref sig .tc).ty.Contents (Elt Ideal)) (q : Fin 4) {off : Fin 2 → ℕ} (inb) (ho : off = ![128 * q.val, 0]) (a : Fin 128) :
    ixM.view.readAt (Elt Ideal) (Rect.unit (s := S512x1) off S128x1.size inb).toLoadRect f (ix2 a 0) = f (ix2 (row q a) 0) := by
  subst ho
  refine congrArg f (funext fun b => Fin.ext ?_)
  match b with
  | ⟨0, _⟩ => show 128 * q.val + 1 * a.val = 128 * q.val + a.val; omega
  | ⟨1, _⟩ => rfl

/-- The same rows of the column of probabilities. -/
theorem p_rows (f : (cc0_scratch0 : Ref sig .tc).ty.Contents (Elt Ideal)) (q : Fin 4) {off : Fin 2 → ℕ} (inb) (ho : off = ![128 * q.val, 0]) (a : Fin 128) :
    pM.view.readAt (Elt Ideal) (Rect.unit (s := S512x1) off S128x1.size inb).toLoadRect f (ix2 a 0) = f (ix2 (row q a) 0) := by
  subst ho
  refine congrArg f (funext fun b => Fin.ext ?_)
  match b with
  | ⟨0, _⟩ => show 128 * q.val + 1 * a.val = 128 * q.val + a.val; omega
  | ⟨1, _⟩ => rfl

/-- The device's two expert matrices as stored. -/
theorem e0_apply (c : Dev nD) (k : Fin 256) (h : Fin 512) : e0 m c (ix3 0 k h) = aE m c 0 k h := by
  unfold e0
  rw [ewS_eq]
  pointwise [k0_pay2]
  refine congrArg (m ((c : Thread nD τ).loc main_arg3)) (funext fun b => Fin.ext ?_)
  match b with
  | ⟨0, _⟩ => rfl
  | ⟨1, _⟩ => show 0 + 1 * k.val = k.val; omega
  | ⟨2, _⟩ => show 0 + 1 * h.val = h.val; omega
/-- The second narrowed matrix, entry by entry, is the argument's. -/
theorem e1_apply (c : Dev nD) (k : Fin 256) (h : Fin 512) : e1 m c (ix3 0 k h) = aE m c 1 k h := by
  unfold e1
  rw [ewS_eq]
  pointwise [k0_pay3]
  refine congrArg (m ((c : Thread nD τ).loc main_arg3)) (funext fun b => Fin.ext ?_)
  match b with
  | ⟨0, _⟩ => rfl
  | ⟨1, _⟩ => show 0 + 1 * k.val = k.val; omega
  | ⟨2, _⟩ => show 0 + 1 * h.val = h.val; omega

/-- The probability column holds each row's chosen probability. -/
theorem psel_apply (c : Dev nD) (r : Fin 512) : psel m c (ix2 r 0) = chosen (scores m c r) (aI m c r) := by
  unfold psel xV
  rw [xS_eq, rwS_eq, ixS_eq]
  exact pay5_apply _ _ _ r

/-- What device `c` sends of the block `i + 1` places on is its part there. -/
theorem sent_apply (c : Dev nD) (i : Fin 3) (a : Fin 128) (h : Fin 512) : sent m c i (ix2 a h) = part m c (row (blk c i) a) h := by
  unfold sent part
  rw [pay6_apply]
  simp only [x_rows _ (blk c i) _ (k0_off1_eq c i), i_rows _ (blk c i) _ (k0_off2_eq c i), p_rows _ (blk c i) _ (k0_off2_eq c i),
    e0_apply, e1_apply, psel_apply, xS_eq, ixS_eq]
  rfl

/-- What it keeps of its own block is its part there. -/
theorem own_apply (c : Dev nD) (a : Fin 128) (h : Fin 512) : own m c (ix2 a h) = part m c (row c a) h := by
  unfold own part
  rw [pay20_apply]
  simp only [x_rows _ c _ (k0_off3_eq c), i_rows _ c _ (k0_off4_eq c), p_rows _ c _ (k0_off4_eq c),
    e0_apply, e1_apply, psel_apply, xS_eq, ixS_eq]
  rfl

/-- The shared product. -/
theorem out0_apply (c : Dev nD) (r h : Fin 512) : out0 m c (ix2 r h) = ∑ k : Fin 256, aX m c r k * aS m c k h := by
  unfold out0 sw xV
  rw [xS_eq, swS_eq]
  pointwise [k0_pay21, k0_pay1, k0_pay4]
  rfl

end Cert.KernelIdeal.MoE

end
-- ==== Proof.Array.lean ====
/-
What the result array of a device holds after the run: in every row the shared product and the sum of the four devices' parts.
-/
module

public import proofs.«01_k».proof.Proof.Block
public import proofs.«01_k».proof.Proof.Run

@[expose] public section

set_option maxRecDepth 16384

noncomputable section

namespace Cert.KernelIdeal.MoE

open Cert.KernelIdeal Cert.KernelIdeal.Gen Cert.Moe
open Idealize.ShloMosaic Idealize.ShloMosaic.TcCoe

variable (m : (ℓ : Loc nD τ sig) → Buf (Elt Ideal) ℓ)

/-- The part that slot `s` of device `c` receives is the sender's part of `c`'s own block. -/
theorem arr_apply (c : Dev nD) (s : Fin 3) (a : Fin 128) (h : Fin 512) : arr m c s (ix2 a h) = part m (src s c) (row c a) h := by
  have hb : blk (src s c) (2 - s) = c := by revert s c; decide
  unfold arr
  rw [sent_apply, hb]

/-- Device `c`'s block of the routed sum. -/
def blockSum (c : Dev nD) (a : Fin 128) (h : Fin 512) : EReal :=
  part m c (row c a) h + part m (src 0 c) (row c a) h + part m (src 1 c) (row c a) h + part m (src 2 c) (row c a) h

/-- The device's reduced block, entry by entry, is its block of the routed sum; -/
theorem red_apply (c : Dev nD) (a : Fin 128) (h : Fin 512) : red m c (ix2 a h) = blockSum m c a h := by
  unfold red blockSum
  rw [← own_apply, ← arr_apply, ← arr_apply, ← arr_apply]
  pointwise [k0_pay22, k0_pay7]

/-- and so is the narrowed one. -/
theorem redN_apply (c : Dev nD) (a : Fin 128) (h : Fin 512) : redN m c (ix2 a h) = blockSum m c a h := by
  rw [← red_apply]
  unfold redN red
  pointwise [k0_pay22, k0_pay23, k0_pay24, k0_pay7]

/-- What lands in slot `s` in the second exchange is the sender's block of the routed sum. -/
theorem arr2_apply (c : Dev nD) (s : Fin 3) (a : Fin 128) (h : Fin 512) : arr2 m c s (ix2 a h) = blockSum m (blk c s) a h := by
  have hb : src s c = blk c s := by revert s c; decide
  unfold arr2
  rw [redN_apply, hb]

/-! ## Reading and writing 128 rows of the result -/

variable (f : (cc0_stg5_0 : Ref sig .tc).ty.Contents (Elt Ideal)) (q : Fin 4) {off : Fin 2 → ℕ} (inb : ∀ a, off a + S128x512.size a ≤ S512x512.size a)

/-- Entry `(a, h)` of the 128 rows from row `128 q` on is row `128 q + a` of the result. -/
theorem out_emb (ho : off = ![128 * q.val, 0]) (a : Fin 128) (h : Fin 512) :
    (outM.access (Rect.unit (s := S512x512) off S128x512.size inb) : View sig .tc _ _ _).emb (ix2 a h) = ix2 (row q a) h := by
  subst ho
  refine funext fun b => Fin.ext ?_
  match b with
  | ⟨0, _⟩ => show 128 * q.val + 1 * a.val = 128 * q.val + a.val; omega
  | ⟨1, _⟩ => show 0 + 1 * h.val = h.val; omega

/-- A load of 128 rows of the result from row `128 q` on. -/
theorem out_rows (ho : off = ![128 * q.val, 0]) (a : Fin 128) (h : Fin 512) :
    outM.view.readAt (Elt Ideal) (Rect.unit (s := S512x512) off S128x512.size inb).toLoadRect f (ix2 a h) = f (ix2 (row q a) h) :=
  congrArg f (out_emb q inb ho a h)

/-- A store to 128 rows, read at one of them; -/
theorem write_here (ho : off = ![128 * q.val, 0]) (w : S128x512.Idx → Elt Ideal .f32) (a : Fin 128) (h : Fin 512) :
    (outM.access (Rect.unit (s := S512x512) off S128x512.size inb) : View sig .tc _ _ _).write (Elt Ideal) f w Finset.univ (ix2 (row q a) h) = w (ix2 a h) := by
  rw [← out_emb q inb ho a h]
  exact View.write_emb_of_mem _ _ (Finset.mem_univ _)

/-- and at a row of another block. -/
theorem write_there (ho : off = ![128 * q.val, 0]) (w : S128x512.Idx → Elt Ideal .f32) (p : Fin 4) (hp : p ≠ q) (a : Fin 128) (h : Fin 512) :
    (outM.access (Rect.unit (s := S512x512) off S128x512.size inb) : View sig .tc _ _ _).write (Elt Ideal) f w Finset.univ (ix2 (row p a) h) = f (ix2 (row p a) h) := by
  refine View.write_of_not_mem _ _ _ fun hm => hp (Fin.ext ?_)
  obtain ⟨y, -, hy⟩ := Finset.mem_map.1 hm
  have hy' : y = ix2 (y 0) (y 1) := eq_ix2 y
  rw [hy'] at hy
  have h0 := congrArg (fun i : S512x512.Idx => (i 0).val) ((out_emb q inb ho (y 0) (y 1)).symm.trans hy)
  have h1 : 128 * q.val + (y 0).val = 128 * p.val + a.val := h0
  have h2 : (y 0).val < 128 := (y 0).isLt
  omega

/-- What is stored over 128 loaded rows: the rows and a block of the routed sum. -/
theorem pay25_apply (v w : FVec Ideal S128x512 .f32) (a : Fin 128) (h : Fin 512) : k0_pay25 (F := Ideal) v w (ix2 a h) = w (ix2 a h) + v (ix2 a h) := by
  pointwise [k0_pay25]
/-- The same for slot 0's block; -/
theorem pay26_apply (w : FVec Ideal S128x512 .f32) (v : FVec Ideal S128x512 .bf16) (a : Fin 128) (h : Fin 512) :
    k0_pay26 (F := Ideal) w (k0_pay7 v) (ix2 a h) = w (ix2 a h) + v (ix2 a h) := by
  pointwise [k0_pay26, k0_pay7]
/-- for slot 1's; -/
theorem pay27_apply (w : FVec Ideal S128x512 .f32) (v : FVec Ideal S128x512 .bf16) (a : Fin 128) (h : Fin 512) :
    k0_pay27 (F := Ideal) w (k0_pay7 v) (ix2 a h) = w (ix2 a h) + v (ix2 a h) := by
  pointwise [k0_pay27, k0_pay7]
/-- and for slot 2's. -/
theorem pay28_apply (w : FVec Ideal S128x512 .f32) (v : FVec Ideal S128x512 .bf16) (a : Fin 128) (h : Fin 512) :
    k0_pay28 (F := Ideal) w (k0_pay7 v) (ix2 a h) = w (ix2 a h) + v (ix2 a h) := by
  pointwise [k0_pay28, k0_pay7]

/-- The four additions, read at row `a` of block `q`. -/
theorem out4_apply (c : Dev nD) (a : Fin 128) (h : Fin 512) :
    out4 m c (ix2 (row q a) h) = (∑ k : Fin 256, aX m c (row q a) k * aS m c k h) + blockSum m q a h := by
  have n01 : ∀ c : Dev nD, c ≠ blk c 0 ∧ c ≠ blk c 1 ∧ c ≠ blk c 2 ∧ blk c 0 ≠ blk c 1 ∧ blk c 0 ≠ blk c 2 ∧ blk c 1 ≠ blk c 2 := by decide
  have hq : ∀ c q : Fin 4, q = c ∨ q = blk c 0 ∨ q = blk c 1 ∨ q = blk c 2 := by decide
  obtain ⟨d0, d1, d2, d01, d02, d12⟩ := n01 c
  rw [← out0_apply]
  rcases hq c q with rfl | rfl | rfl | rfl
  · unfold out4; rw [write_there _ (blk q 2) _ (k0_off6_eq q 2) _ _ d2]
    unfold out3; rw [write_there _ (blk q 1) _ (k0_off6_eq q 1) _ _ d1]
    unfold out2; rw [write_there _ (blk q 0) _ (k0_off6_eq q 0) _ _ d0]
    unfold out1; rw [write_here _ q _ (k0_off5_eq q), pay25_apply, out_rows _ q _ (k0_off5_eq q), red_apply]
  · unfold out4; rw [write_there _ (blk c 2) _ (k0_off6_eq c 2) _ _ d02]
    unfold out3; rw [write_there _ (blk c 1) _ (k0_off6_eq c 1) _ _ d01]
    unfold out2; rw [write_here _ (blk c 0) _ (k0_off6_eq c 0), pay26_apply, out_rows _ (blk c 0) _ (k0_off6_eq c 0), arr2_apply]
    unfold out1; rw [write_there _ c _ (k0_off5_eq c) _ _ d0.symm]
  · unfold out4; rw [write_there _ (blk c 2) _ (k0_off6_eq c 2) _ _ d12]
    unfold out3; rw [write_here _ (blk c 1) _ (k0_off6_eq c 1), pay27_apply, out_rows _ (blk c 1) _ (k0_off6_eq c 1), arr2_apply]
    unfold out2; rw [write_there _ (blk c 0) _ (k0_off6_eq c 0) _ _ d01.symm]
    unfold out1; rw [write_there _ c _ (k0_off5_eq c) _ _ d1.symm]
  · unfold out4; rw [write_here _ (blk c 2) _ (k0_off6_eq c 2), pay28_apply, out_rows _ (blk c 2) _ (k0_off6_eq c 2), arr2_apply]
    unfold out3; rw [write_there _ (blk c 1) _ (k0_off6_eq c 1) _ _ d12.symm]
    unfold out2; rw [write_there _ (blk c 0) _ (k0_off6_eq c 0) _ _ d02.symm]
    unfold out1; rw [write_there _ c _ (k0_off5_eq c) _ _ d2.symm]

/-- The result array after the run is the array that the last addition leaves. -/
theorem finalA_5 (c : Dev nD) : finalA m c (5 : Fin 6) = out4 m c := by
  refine (dats m 0 c).arrAt_eq_of_after_last (5 : Fin 6) t0_0 (by decide +kernel) _ fun j => ?_
  blk_simp
  dsimp only [dats]

end Cert.KernelIdeal.MoE

end
-- ==== Proof.Reference.lean ====
/-
What the reference leaves in row `r` and column `h` of its result: the shared product, and the chosen expert's probability times that expert's
product. A row that names none of the eight experts keeps the shared product alone.
-/
module

public import proofs.«01_k».proof.Proof.Math
public import proofs.«01_k».proof.Proof.Gen.ReferenceIdeal
public import Idealize.ShloMosaic.Lib.Tactic.WordOmega

@[expose] public section

set_option maxRecDepth 16384

noncomputable section

namespace Cert.ReferenceIdeal.Row

open Idealize.ShloMosaic Cert.ReferenceIdeal Cert.ReferenceIdeal.Gen Cert.Moe

/-- A signed expert number, clamped to 0 … 7, is itself. -/
theorem clamp : ∀ e : Fin 8, min (BitVec.ofNat 32 e.val).toInt.toNat 7 = e.val := by decide

/-- An expert's number passes both bounds. -/
theorem bounds : ∀ e : Fin 8, IntOp.andi (IntOp.cmpi .sge (BitVec.ofNat 32 e.val) 0#32) (IntOp.cmpi .slt (BitVec.ofNat 32 e.val) 8#32) = 1#1 := by decide

/-- An expert's number is not negative. -/
theorem not_neg : ∀ e : Fin 8, IntOp.cmpi .slt (BitVec.ofNat 32 e.val) 0#32 = 0#1 := by decide

/-- The take from the probabilities: where the row's word is `e`, entry `e` of the row. -/
theorem take_prob (p : FVec Ideal S512x8 .f32) (i : IVec S512x1x1 32) (r : Fin 512) (e : Fin 8)
    (he : i (ix3 r 0 0) = BitVec.ofNat 32 e.val) :
    Host.gather gather_S512x8_S512x1x1_S512x1_n_1_0_0_1_2_11 p i (ix2 r 0) = p (ix2 r e) := by
  have hs : ∀ k, (gather_S512x8_S512x1x1_S512x1_n_1_0_0_1_2_11).siIdx (ix2 r 0) k = ix3 r 0 0 := fun k => by
    have hk : k = ⟨0, by decide⟩ := Fin.ext (Nat.lt_one_iff.1 k.isLt)
    subst hk
    funext b
    refine Fin.ext ?_
    match b with
    | ⟨0, _⟩ => rfl
    | ⟨1, _⟩ => rfl
    | ⟨2, _⟩ => rfl
  refine congrArg p (funext fun a => Fin.ext ?_)
  have ha : a = 0 ∨ a = 1 := by revert a; decide
  show GatherDims.start _ _ i a + GatherDims.batchCoord _ _ a + GatherDims.offCoord _ _ a = _
  rw [GatherDims.offCoord_eq_zero _ _ _ (by revert a; decide), Nat.add_zero]
  rcases ha with rfl | rfl
  · rw [GatherDims.start_batching _ _ _ _ (by decide), Nat.zero_add]
    rfl
  · rw [GatherDims.batchCoord_eq_zero _ _ _ (by decide), Nat.add_zero, GatherDims.start, dif_pos (by decide), hs, he]
    exact clamp e

/-- The take from the products: where the row's word is `e`, row `e` of the row's eight. -/
theorem take_prod (p : FVec Ideal S512x8x512 .f32) (i : IVec S512x1x1 32) (r h : Fin 512) (e : Fin 8)
    (he : i (ix3 r 0 0) = BitVec.ofNat 32 e.val) :
    Host.gather gather_S512x8x512_S512x1x1_S512x1x512_2_1_0_0_1_2_11512 p i (ix3 r 0 h) = p (ix3 r e h) := by
  have hs : ∀ k, (gather_S512x8x512_S512x1x1_S512x1x512_2_1_0_0_1_2_11512).siIdx (ix3 r 0 h) k = ix3 r 0 0 := fun k => by
    have hk : k = ⟨0, by decide⟩ := Fin.ext (Nat.lt_one_iff.1 k.isLt)
    subst hk
    funext b
    refine Fin.ext ?_
    match b with
    | ⟨0, _⟩ => rfl
    | ⟨1, _⟩ => rfl
    | ⟨2, _⟩ => rfl
  refine congrArg p (funext fun a => Fin.ext ?_)
  have ha : a = 0 ∨ a = 1 ∨ a = 2 := by revert a; decide
  show GatherDims.start _ _ i a + GatherDims.batchCoord _ _ a + GatherDims.offCoord _ _ a = _
  rcases ha with rfl | rfl | rfl
  · rw [GatherDims.offCoord_eq_zero _ _ _ (by decide), GatherDims.start_batching _ _ _ _ (by decide), Nat.zero_add]
    rfl
  · rw [GatherDims.offCoord_eq_zero _ _ _ (by decide), GatherDims.batchCoord_eq_zero _ _ _ (by decide), GatherDims.start,
      dif_pos (by decide), hs, he]
    exact clamp e
  · rw [GatherDims.batchCoord_eq_zero _ _ _ (by decide), GatherDims.start, dif_neg (by decide), Nat.zero_add, GatherDims.offCoord,
      dif_pos (by decide)]
    rfl

/-- A word from 0 to 7 by its sign and by the bound is one of the eight numbers. -/
theorem known (i : BitVec 32) (hi : IntOp.andi (IntOp.cmpi .sge i 0#32) (IntOp.cmpi .slt i 8#32) = 1#1) : ∃ e : Fin 8, i = BitVec.ofNat 32 e.val := by
  have h : i.toNat < 8 := by word_omega
  exact ⟨⟨i.toNat, h⟩, by simp⟩

/-- The reference's result at row `r` and column `h`. -/
theorem result (x : FVec Ideal S512x256 .f32) (rW : FVec Ideal S256x8 .f32) (ix : IVec S512x1 32) (eW : FVec Ideal S8x256x512 .f32) (sW : FVec Ideal S256x512 .f32) (r h : Fin 512) :
    addf (Host.dotGeneral dot_S512x256_S256x512_S512x512_1_0_0_1_n_n none x sW) (select (broadcastInDim S512x512 ![0, 1] bcast_S512x1_S512x512_0_1 (andi (cmpi .sge ix (broadcastInDim S512x1 ![] bcast_S_S512x1 (constantI S_ 32 0#32))) (cmpi .slt ix (broadcastInDim S512x1 ![] bcast_S_S512x1 (constantI S_ 32 8#32))))) (mulf (broadcastInDim S512x512 ![0, 1] bcast_S512x1_S512x512_0_1 (Host.gather gather_S512x8_S512x1x1_S512x1_n_1_0_0_1_2_11 (Host.divf (Host.exp (subf (Host.dotGeneral dot_S512x256_S256x8_S512x8_1_0_0_1_n_n none x rW) (broadcastInDim S512x8 ![0, 1] bcast_S512x1_S512x8_0_1 (broadcastInDim S512x1 ![0] bcast_S512_S512x1_0 (Host.reduce FloatOps.maximumf (Host.dotGeneral dot_S512x256_S256x8_S512x8_1_0_0_1_n_n none x rW) (constant S_ .f32 0xFF800000#32) reducesTo_S512x8_S512_d1 h_S_))))) (broadcastInDim S512x8 ![0, 1] bcast_S512x1_S512x8_0_1 (broadcastInDim S512x1 ![0] bcast_S512_S512x1_0 (Host.reduceAdd (Host.exp (subf (Host.dotGeneral dot_S512x256_S256x8_S512x8_1_0_0_1_n_n none x rW) (broadcastInDim S512x8 ![0, 1] bcast_S512x1_S512x8_0_1 (broadcastInDim S512x1 ![0] bcast_S512_S512x1_0 (Host.reduce FloatOps.maximumf (Host.dotGeneral dot_S512x256_S256x8_S512x8_1_0_0_1_n_n none x rW) (constant S_ .f32 0xFF800000#32) reducesTo_S512x8_S512_d1 h_S_))))) (constant S_ .f32 0x00000000#32) reducesTo_S512x8_S512_d1 h_S_)))) (shapeCast _ (select (cmpi .slt ix (broadcastInDim S512x1 ![] bcast_S_S512x1 (constantI S_ 32 0#32))) (addi ix (broadcastInDim S512x1 ![] bcast_S_S512x1 (constantI S_ 32 8#32))) ix) shapeCasts_S512x1_S512x1x1))) (shapeCast _ (Host.gather gather_S512x8x512_S512x1x1_S512x1x512_2_1_0_0_1_2_11512 (Host.dotGeneral dot_S512x256_S8x256x512_S512x8x512_1_1_0_02_n_n none x eW) (select (cmpi .slt (broadcastInDim S512x1x1 ![0, 1] bcast_S512x1_S512x1x1_0_1 ix) (broadcastInDim S512x1x1 ![] bcast_S_S512x1x1 (constantI S_ 32 0#32))) (addi (broadcastInDim S512x1x1 ![0, 1] bcast_S512x1_S512x1x1_0_1 ix) (broadcastInDim S512x1x1 ![] bcast_S_S512x1x1 (constantI S_ 32 8#32))) (broadcastInDim S512x1x1 ![0, 1] bcast_S512x1_S512x1x1_0_1 ix))) shapeCasts_S512x1x512_S512x512)) (broadcastInDim S512x512 ![] bcast_S_S512x512 (id (constant S_ .f32 0x00000000#32)))) (ix2 r h)
      = (∑ k : Fin 256, x (ix2 r k) * sW (ix2 k h)) + ∑ e : Fin 8, if ix (ix2 r 0) = BitVec.ofNat 32 e.val
          then prob (fun e => ∑ k : Fin 256, x (ix2 r k) * rW (ix2 k e)) e * ∑ k : Fin 256, x (ix2 r k) * eW (ix3 e k h) else 0 := by
  pointwise
  refine congrArg (_ + ·) ?_
  by_cases hk : ∃ e : Fin 8, ix (ix2 r 0) = BitVec.ofNat 32 e.val
  · obtain ⟨e, he⟩ := hk
    have hinj : ∀ a : Fin 8, (ix (ix2 r 0) = BitVec.ofNat 32 a.val) ↔ e = a := fun a => he ▸ name_inj e a
    have hbit : IntOp.andi (IntOp.cmpi .sge (ix (ix2 r 0)) 0#32) (IntOp.cmpi .slt (ix (ix2 r 0)) 8#32) = 1#1 := he ▸ bounds e
    simp only [hinj, Finset.sum_ite_eq, Finset.mem_univ, if_true]
    rw [hbit, take_prob _ _ r e (by pointwise; rw [he, not_neg]; rfl), take_prod _ _ r h e (by pointwise; rw [he, not_neg]; rfl)]
    pointwise [prob, peak]
  · have hbit : IntOp.andi (IntOp.cmpi .sge (ix (ix2 r 0)) 0#32) (IntOp.cmpi .slt (ix (ix2 r 0)) 8#32) = 0#1 :=
      (BitVec.eq_zero_or_eq_one _).resolve_right fun h1 => hk (known _ h1)
    rw [hbit, Finset.sum_eq_zero fun e _ => if_neg fun he => hk ⟨e, he⟩]
    pointwise
    exact Ideal.ofBits_zero_f32

end Cert.ReferenceIdeal.Row

end
-- ==== Proof.Equation.lean ====
/-
The equation: with the arguments shared out among the four devices, `x` and the router's matrix finite, every device's result is the
reference's.
-/
module

public import proofs.«01_k».proof.Defs
public import proofs.«01_k».proof.Proof.Array
public import proofs.«01_k».proof.Proof.Reference

@[expose] public section

set_option maxRecDepth 16384

noncomputable section

namespace Cert.KernelIdeal.MoE

open Cert.KernelIdeal Cert.KernelIdeal.Gen Cert.Moe
open Idealize.ShloMosaic Idealize.ShloMosaic.TcCoe

variable (m : (ℓ : Loc nD τ sig) → Buf (Elt Ideal) ℓ)
variable (x : FVec Ideal S512x256 .f32) (rW : FVec Ideal S256x8 .f32) (ix : IVec S512x1 32) (eW : FVec Ideal Cert.ReferenceIdeal.S8x256x512 .f32)
  (sW : FVec Ideal S256x512 .f32)

/-- The five arguments shared out: each device has all of `x`, the router, the expert numbers and the shared matrix, and device `c` has
    expert matrices `2 c` and `2 c + 1`. -/
structure Shared : Prop where
  hx : ∀ c : Dev nD, m ((c : Thread nD τ).loc main_arg0) = x
  hr : ∀ c : Dev nD, m ((c : Thread nD τ).loc main_arg1) = rW
  hi : ∀ c : Dev nD, m ((c : Thread nD τ).loc main_arg2) = ix
  he : ∀ c : Dev nD, m ((c : Thread nD τ).loc main_arg3) = Layout.block ⟨3, ![2, 256, 512]⟩ ⟨3, ![8, 256, 512]⟩ 0 4 c eW
  hs : ∀ c : Dev nD, m ((c : Thread nD τ).loc main_arg4) = sW

/-- Row `r`'s scores, from the whole arguments. -/
def rowScores (r : Fin 512) (e : Fin 8) : EReal := ∑ k : Fin 256, x (ix2 r k) * rW (ix2 k e)

/-- Expert `e`'s masked term at row `r` and column `h`. -/
def term (r h : Fin 512) (e : Fin 8) : EReal :=
  ∑ k : Fin 256, if ix (ix2 r 0) = BitVec.ofNat 32 e.val then x (ix2 r k) * chosen (rowScores x rW r) (ix (ix2 r 0)) * eW (ix3 e k h) else 0

variable {m x rW ix eW sW}

/-- Device `c`'s matrix `j` is expert `2 c + j`'s. -/
theorem expert (hm : Shared m x rW ix eW sW) (c : Dev nD) (j : Fin 2) (k : Fin 256) (h : Fin 512) (e : Fin 8) (he : e.val = 2 * c.val + j.val) :
    aE m c j k h = eW (ix3 e k h) := by
  unfold aE
  rw [hm.he c]
  refine congrArg eW (funext fun b => Fin.ext ?_)
  match b with
  | ⟨0, _⟩ => show c.val * 2 + j.val = e.val; omega
  | ⟨1, _⟩ => rfl
  | ⟨2, _⟩ => rfl

/-- A device's part is its two experts' terms. -/
theorem part_eq (hm : Shared m x rW ix eW sW) (c : Dev nD) (r h : Fin 512) (e f : Fin 8) (he : e.val = 2 * c.val) (hf : f.val = 2 * c.val + 1) :
    part m c r h = term x rW ix eW r h e + term x rW ix eW r h f := by
  have hs : scores m c r = rowScores x rW r := by
    funext a
    unfold scores rowScores aX aR
    rw [hm.hx c, hm.hr c]
  have hI : aI m c r = ix (ix2 r 0) := by unfold aI; rw [hm.hi c]
  have hX : ∀ k, aX m c r k = x (ix2 r k) := fun k => by unfold aX; rw [hm.hx c]
  have h0 : ∀ k, aE m c 0 k h = eW (ix3 e k h) := fun k => expert hm c 0 k h e he
  have h1 : ∀ k, aE m c 1 k h = eW (ix3 f k h) := fun k => expert hm c 1 k h f hf
  unfold part term
  simp only [hs, hI, hX, h0, h1, he, hf]

/-- A block of the routed sum is the sum of the eight experts' terms. -/
theorem blockSum_eq (hm : Shared m x rW ix eW sW) (q : Dev nD) (a : Fin 128) (h : Fin 512) :
    blockSum m q a h = ∑ e : Fin 8, term x rW ix eW (row q a) h e := by
  unfold blockSum
  generalize row q a = r
  have p0 : part m 0 r h = term x rW ix eW r h 0 + term x rW ix eW r h 1 := part_eq hm 0 r h 0 1 rfl rfl
  have p1 : part m 1 r h = term x rW ix eW r h 2 + term x rW ix eW r h 3 := part_eq hm 1 r h 2 3 rfl rfl
  have p2 : part m 2 r h = term x rW ix eW r h 4 + term x rW ix eW r h 5 := part_eq hm 2 r h 4 5 rfl rfl
  have p3 : part m 3 r h = term x rW ix eW r h 6 + term x rW ix eW r h 7 := part_eq hm 3 r h 6 7 rfl rfl
  have hd : ∀ q : Dev nD, (q = 0 ∧ src 0 q = 1 ∧ src 1 q = 2 ∧ src 2 q = 3) ∨ (q = 1 ∧ src 0 q = 2 ∧ src 1 q = 3 ∧ src 2 q = 0)
      ∨ (q = 2 ∧ src 0 q = 3 ∧ src 1 q = 0 ∧ src 2 q = 1) ∨ (q = 3 ∧ src 0 q = 0 ∧ src 1 q = 1 ∧ src 2 q = 2) := by decide
  rw [Fin.sum_univ_eight]
  rcases hd q with ⟨h1, h2, h3, h4⟩ | ⟨h1, h2, h3, h4⟩ | ⟨h1, h2, h3, h4⟩ | ⟨h1, h2, h3, h4⟩ <;> rw [h2, h3, h4, h1, p0, p1, p2, p3] <;> ac_rfl

/-- Finite arguments make real scores. -/
theorem rowScores_real (hx : ∀ i, ∃ a : ℝ, x i = (a : EReal)) (hr : ∀ i, ∃ a : ℝ, rW i = (a : EReal)) (r : Fin 512) (e : Fin 8) :
    ∃ a : ℝ, rowScores x rW r e = (a : EReal) := by
  choose u hu using hx
  choose v hv using hr
  refine ⟨∑ k : Fin 256, u (ix2 r k) * v (ix2 k e), ?_⟩
  unfold rowScores
  rw [real_sum]
  exact Finset.sum_congr rfl fun k _ => by rw [hu, hv, EReal.coe_mul]

/-- Device `c`'s result at row `r` and column `h`: the shared product and the chosen expert's probability times its product. -/
theorem out4_eq (hm : Shared m x rW ix eW sW) (hx : ∀ i, ∃ a : ℝ, x i = (a : EReal)) (hr : ∀ i, ∃ a : ℝ, rW i = (a : EReal)) (c : Dev nD) (r h : Fin 512) :
    out4 m c (ix2 r h)
      = (∑ k : Fin 256, x (ix2 r k) * sW (ix2 k h)) + ∑ e : Fin 8, if ix (ix2 r 0) = BitVec.ofNat 32 e.val
          then prob (fun e => ∑ k : Fin 256, x (ix2 r k) * rW (ix2 k e)) e * ∑ k : Fin 256, x (ix2 r k) * eW (ix3 e k h) else 0 := by
  obtain ⟨q, a, rfl⟩ : ∃ (q : Fin 4) (a : Fin 128), r = row q a :=
    ⟨⟨r.val / 128, by omega⟩, ⟨r.val % 128, by omega⟩, Fin.ext (by show r.val = 128 * (r.val / 128) + r.val % 128; omega)⟩
  have hX : ∀ k, aX m c (row q a) k = x (ix2 (row q a) k) := fun k => by unfold aX; rw [hm.hx c]
  have hS : ∀ k, aS m c k h = sW (ix2 k h) := fun k => by unfold aS; rw [hm.hs c]
  rw [out4_apply, blockSum_eq hm]
  simp only [hX, hS]
  exact congrArg (_ + ·) (routed (rowScores x rW (row q a)) (rowScores_real hx hr _) (ix (ix2 (row q a) 0)) (fun k => x (ix2 (row q a) k)) fun e k => eW (ix3 e k h))

/-- The layer's result by coordinates: the shared product, and the chosen expert's probability times its product. -/
def layer (x : FVec Ideal S512x256 .f32) (rW : FVec Ideal S256x8 .f32) (ix : IVec S512x1 32) (eW : FVec Ideal Cert.ReferenceIdeal.S8x256x512 .f32)
    (sW : FVec Ideal S256x512 .f32) : FVec Ideal S512x512 .f32 := fun i =>
  (∑ k : Fin 256, x (ix2 (i 0) k) * sW (ix2 k (i 1))) + ∑ e : Fin 8, if ix (ix2 (i 0) 0) = BitVec.ofNat 32 e.val
    then prob (fun e => ∑ k : Fin 256, x (ix2 (i 0) k) * rW (ix2 k e)) e * ∑ k : Fin 256, x (ix2 (i 0) k) * eW (ix3 e k (i 1)) else 0

/-- Every device's result array ends holding the layer's result. -/
theorem finalA_layer (hm : Shared m x rW ix eW sW) (hx : ∀ i, ∃ a : ℝ, x i = (a : EReal)) (hr : ∀ i, ∃ a : ℝ, rW i = (a : EReal)) (c : Dev nD) :
    finalA m c (5 : Fin 6) = layer x rW ix eW sW := by
  rw [finalA_5]
  funext i
  obtain ⟨r, h, rfl⟩ : ∃ (r : Fin 512) (h : Fin 512), i = ix2 r h := ⟨i 0, i 1, eq_ix2 i⟩
  exact out4_eq hm hx hr c r h

/-- The side conditions of the precondition's operations, at the kernel's argument types. -/
theorem pre_facts : Cert.Pre_finite_router_KernelIdeal.Facts where
  bcast_S_S512x256 := by decide
  bcast_S_S256x8 := by decide

/-- The side conditions of the precondition's operations, at the reference's argument types. -/
theorem pre_facts_ref : Cert.Pre_finite_router_ReferenceIdeal.Facts where
  bcast_S_S512x256 := by decide
  bcast_S_S256x8 := by decide

/-- The bound the precondition compares with is infinity. -/
theorem bound_top : Ideal.ofBits .f32 0x7F800000#32 = (⊤ : EReal) := by simp [Ideal.ofBits, Ideal.ieee]

/-- A number whose absolute value is below infinity is real. -/
theorem real_of_abs (v : EReal) (hv : max v (-v) < ⊤) : ∃ a : ℝ, v = (a : EReal) := by
  induction v with
  | bot => simp at hv
  | top => simp at hv
  | coe a => exact ⟨a, rfl⟩

/-- The comparison the precondition makes, read as an order. -/
theorem real_of_bit (v : EReal) (hv : Ideal.cmp .olt (max v (-v)) (Ideal.ofBits .f32 0x7F800000#32) = 1#1) : ∃ a : ℝ, v = (a : EReal) := by
  refine real_of_abs v ?_
  rw [bound_top] at hv
  by_contra hn
  simp [Ideal.cmp, hn] at hv

/-- Under the precondition every entry of `x` and of the router's matrix is real. -/
theorem finite_of (m : (ℓ : Loc nD τ sig) → Buf (Elt Ideal) ℓ) (h : Cert.Pre_KernelIdeal_finite_router_KernelIdeal (hPre_finite_router_KernelIdeal := pre_facts) m) (hm : Shared m x rW ix eW sW) :
    (∀ i, ∃ a : ℝ, x i = (a : EReal)) ∧ ∀ i, ∃ a : ℝ, rW i = (a : EReal) := by
  obtain ⟨h0, h1⟩ := h 0
  rw [hm.hx 0, hm.hr 0] at h0 h1
  exact ⟨fun i => real_of_bit _ (congrFun h0 i), fun i => real_of_bit _ (congrFun h1 i)⟩

end Cert.KernelIdeal.MoE

end
-- ==== Proof.lean ====
/-
The five claims of the kernel that shares the experts among four devices: the two frames of the kernel, the reference's frame, the
idealization's rewrites (none), and the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem Cert.KernelIdeal.MoE

/-- The run of the kernel, read at its five argument arrays: they hold what they held, and every semaphore is at zero. -/
theorem args_of {F : FTy → Type} [FloatOps F] (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (h : QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨(h c (0 : Fin 6)).trans (finalA_0 m c), (h c (1 : Fin 6)).trans (finalA_1 m c), (h c (2 : Fin 6)).trans (finalA_2 m c),
    (h c (3 : Fin 6)).trans (finalA_3 m c), (h c (4 : Fin 6)).trans (finalA_4 m c)⟩

/-- From any memory the four devices run to their end, the arguments unchanged and every semaphore at zero, for any float values. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun r h => ⟨args_of m r h.1, h.2⟩) (run_main m ρ)

/-- The kernel runs to its end from any memory, over the floats' words: its arguments unchanged, its semaphores at zero. -/
theorem frame_kernel : Cert.quiescent_Kernel (hKernel := Cert.Kernel.Gen.facts) := fun m ρ _ =>
  Cert.Same.defs_eq (F := Bits) ▸ frame_run (F := Bits) m ρ

/-- The same at the extended reals. -/
theorem frame_ideal : Cert.quiescent_KernelIdeal (hKernelIdeal := Cert.KernelIdeal.Gen.facts) := fun m ρ _ =>
  frame_run (F := Ideal) m ρ

/-- The reference runs to its end from any memory: its arguments unchanged, its semaphores at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where each device has its part of the reference's arguments, and `x` and the router's matrix are finite, every device's result and the
    reference's are one array. -/
theorem value : Cert.algebraic_KernelIdeal_ReferenceIdeal_pre_finite_router_KernelIdeal (hKernelIdeal := Cert.KernelIdeal.Gen.facts)
    (hReferenceIdeal := Cert.ReferenceIdeal.Gen.facts) (hPre_finite_router_KernelIdeal := pre_facts) := by
  intro m g m' g' hp ha
  have hm : Shared m _ _ _ _ _ := ⟨fun c => (ha c).1, fun c => (ha c).2.1, fun c => (ha c).2.2.1, fun c => (ha c).2.2.2.1, fun c => (ha c).2.2.2.2⟩
  obtain ⟨hx, hr⟩ := finite_of m hp hm
  refine ⟨layer _ _ _ _ _, (θ_run Cert.KernelIdeal.defs _ _).mono (fun r h c => ⟨(h.1 c (5 : Fin 6)).trans (finalA_layer hm hx hr c), args_of m r h.1 c⟩)
    (run_main m g), (θ_run Cert.ReferenceIdeal.defs _ _).mono (fun r h => ⟨(h 0).1.trans ?_, (h 0).2⟩) (Cert.ReferenceIdeal.Value.run (F := Ideal) m' g')⟩
  funext i
  obtain ⟨a, b, rfl⟩ : ∃ (a : Fin 512) (b : Fin 512), i = ix2 a b := ⟨i 0, i 1, eq_ix2 i⟩
  exact Cert.ReferenceIdeal.Row.result _ _ _ _ _ a b

/-- Everything claimed. -/
theorem claim : Cert.Claim := ⟨Cert.Kernel.Gen.facts, Cert.KernelIdeal.Gen.facts, Cert.ReferenceIdeal.Gen.facts, pre_facts, pre_facts_ref,
  frame_kernel, frame_ideal, fun m g _ => frame_ideal m g trivial, frame_reference, fun m g _ => frame_reference m g trivial, trivial, value⟩

end Cert.Proof

end
